-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Tiles (m : (ℓ : Loc Cert.Tiles.nD Cert.Tiles.τ Cert.Tiles.sig) → Buf (Elt Bits) ℓ) : Prop :=
  True

def Pre_TilesIdeal (m : (ℓ : Loc Cert.TilesIdeal.nD Cert.TilesIdeal.τ Cert.TilesIdeal.sig) → Buf (Elt Ideal) ℓ) : Prop :=
  True

def Pre_ColumnsIdeal (m : (ℓ : Loc Cert.ColumnsIdeal.nD Cert.ColumnsIdeal.τ Cert.ColumnsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Tiles [hTiles : Cert.Tiles.Facts] : Prop :=
  ∀ (m : (ℓ : Loc Cert.Tiles.nD Cert.Tiles.τ Cert.Tiles.sig) → Buf (Elt Bits) ℓ) (g : Dev Cert.Tiles.nD → PrngReg), Pre_Tiles m →
    θ_run (Cert.Tiles.defs (F := Bits)) (Cert.Tiles.threads (F := Bits)) ⟨m, fun _ => 0, g⟩ (fun r => (∀ c : Dev Cert.Tiles.nD,
      r.2.mem ((c.tc : Thread Cert.Tiles.nD Cert.Tiles.τ).loc Cert.Tiles.main_arg0) = m ((c.tc : Thread Cert.Tiles.nD Cert.Tiles.τ).loc Cert.Tiles.main_arg0))
      ∧ r.2.sem = fun _ => 0)

def quiescent_TilesIdeal [hTilesIdeal : Cert.TilesIdeal.Facts] : Prop :=
  ∀ (m : (ℓ : Loc Cert.TilesIdeal.nD Cert.TilesIdeal.τ Cert.TilesIdeal.sig) → Buf (Elt Ideal) ℓ) (g : Dev Cert.TilesIdeal.nD → PrngReg), Pre_TilesIdeal m →
    θ_run (Cert.TilesIdeal.defs (F := Ideal)) (Cert.TilesIdeal.threads (F := Ideal)) ⟨m, fun _ => 0, g⟩ (fun r => (∀ c : Dev Cert.TilesIdeal.nD,
      r.2.mem ((c.tc : Thread Cert.TilesIdeal.nD Cert.TilesIdeal.τ).loc Cert.TilesIdeal.main_arg0) = m ((c.tc : Thread Cert.TilesIdeal.nD Cert.TilesIdeal.τ).loc Cert.TilesIdeal.main_arg0))
      ∧ r.2.sem = fun _ => 0)

def quiescent_ColumnsIdeal [hColumnsIdeal : Cert.ColumnsIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg), Pre_ColumnsIdeal m →
    θ_run (Cert.ColumnsIdeal.defs (F := Ideal)) (onTc (τ := Cert.ColumnsIdeal.τ) (Cert.ColumnsIdeal.main (F := Ideal))) ⟨m, fun _ => 0, g⟩ (fun r => (∀ c : Dev Cert.ColumnsIdeal.nD,
      r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v6)) (v6 : (c : Dev Cert.KernelIdeal.nD) → Buf (Elt Ideal) ((c.tc : Thread Cert.KernelIdeal.nD Cert.KernelIdeal.τ).loc Cert.KernelIdeal.main_v7)) (v7 : (c : Dev Cert.KernelIdeal.nD) → Buf (Elt Ideal) ((c.tc : Thread Cert.KernelIdeal.nD Cert.KernelIdeal.τ).loc Cert.KernelIdeal.main_v2_7)) (v8 : (c : Dev Cert.KernelIdeal.nD) → Buf (Elt Ideal) ((c.tc : Thread Cert.KernelIdeal.nD Cert.KernelIdeal.τ).loc Cert.KernelIdeal.main_v8)) (v9 : (c : Dev Cert.KernelIdeal.nD) → Buf (Elt Ideal) ((c.tc : Thread Cert.KernelIdeal.nD Cert.KernelIdeal.τ).loc Cert.KernelIdeal.main_v9)) (v10 : (c : Dev Cert.KernelIdeal.nD) → Buf (Elt Ideal) ((c.tc : Thread Cert.KernelIdeal.nD Cert.KernelIdeal.τ).loc Cert.KernelIdeal.main_v2_10)) (v11 : (c : Dev Cert.KernelIdeal.nD) → Buf (Elt Ideal) ((c.tc : Thread Cert.KernelIdeal.nD Cert.KernelIdeal.τ).loc Cert.KernelIdeal.main_v10)) (v12 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_v7) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_v8) = v8 c
          ∧ r.2.mem ((c.tc : Thread Cert.KernelIdeal.nD Cert.KernelIdeal.τ).loc Cert.KernelIdeal.main_v9) = v9 c
          ∧ r.2.mem ((c.tc : Thread Cert.KernelIdeal.nD Cert.KernelIdeal.τ).loc Cert.KernelIdeal.main_v2_10) = v10 c
          ∧ r.2.mem ((c.tc : Thread Cert.KernelIdeal.nD Cert.KernelIdeal.τ).loc Cert.KernelIdeal.main_v10) = v11 c
          ∧ r.2.mem ((c.tc : Thread Cert.KernelIdeal.nD Cert.KernelIdeal.τ).loc Cert.KernelIdeal.main_v11) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_v66) = v5 c
          ∧ r.2.mem ((c.tc : Thread Cert.ReferenceIdeal.nD Cert.ReferenceIdeal.τ).loc Cert.ReferenceIdeal.main_v72) = v6 c
          ∧ r.2.mem ((c.tc : Thread Cert.ReferenceIdeal.nD Cert.ReferenceIdeal.τ).loc Cert.ReferenceIdeal.main_v133) = v7 c
          ∧ r.2.mem ((c.tc : Thread Cert.ReferenceIdeal.nD Cert.ReferenceIdeal.τ).loc Cert.ReferenceIdeal.main_v120) = v8 c
          ∧ r.2.mem ((c.tc : Thread Cert.ReferenceIdeal.nD Cert.ReferenceIdeal.τ).loc Cert.ReferenceIdeal.main_v127) = v9 c
          ∧ r.2.mem ((c.tc : Thread Cert.ReferenceIdeal.nD Cert.ReferenceIdeal.τ).loc Cert.ReferenceIdeal.main_v141) = v10 c
          ∧ r.2.mem ((c.tc : Thread Cert.ReferenceIdeal.nD Cert.ReferenceIdeal.τ).loc Cert.ReferenceIdeal.main_v124) = v11 c
          ∧ r.2.mem ((c.tc : Thread Cert.ReferenceIdeal.nD Cert.ReferenceIdeal.τ).loc Cert.ReferenceIdeal.main_v130) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Tiles_TilesIdeal : Prop :=
  True

def algebraic_TilesIdeal_ColumnsIdeal [hTilesIdeal : Cert.TilesIdeal.Facts] [hColumnsIdeal : Cert.ColumnsIdeal.Facts] : Prop :=
  ∀ (m : (ℓ : Loc Cert.TilesIdeal.nD Cert.TilesIdeal.τ Cert.TilesIdeal.sig) → Buf (Elt Ideal) ℓ) (g : Dev Cert.TilesIdeal.nD → PrngReg)
    (m' : (ℓ : Loc Cert.ColumnsIdeal.nD Cert.ColumnsIdeal.τ Cert.ColumnsIdeal.sig) → Buf (Elt Ideal) ℓ) (g' : Dev Cert.ColumnsIdeal.nD → PrngReg), Pre_TilesIdeal m →
    (∀ c : Dev Cert.TilesIdeal.nD,
      m' ((c.tc : Thread Cert.ColumnsIdeal.nD Cert.ColumnsIdeal.τ).loc Cert.ColumnsIdeal.main_arg0) = m ((c.tc : Thread Cert.TilesIdeal.nD Cert.TilesIdeal.τ).loc Cert.TilesIdeal.main_arg0)) →
    ∃ (v0 : (c : Dev Cert.TilesIdeal.nD) → Buf (Elt Ideal) ((c.tc : Thread Cert.TilesIdeal.nD Cert.TilesIdeal.τ).loc Cert.TilesIdeal.main_v7)) (v1 : (c : Dev Cert.TilesIdeal.nD) → Buf (Elt Ideal) ((c.tc : Thread Cert.TilesIdeal.nD Cert.TilesIdeal.τ).loc Cert.TilesIdeal.main_v9)) (v2 : (c : Dev Cert.TilesIdeal.nD) → Buf (Elt Ideal) ((c.tc : Thread Cert.TilesIdeal.nD Cert.TilesIdeal.τ).loc Cert.TilesIdeal.main_v11)),
      θ_run (Cert.TilesIdeal.defs (F := Ideal)) (Cert.TilesIdeal.threads (F := Ideal)) ⟨m, fun _ => 0, g⟩ (fun r => ∀ c : Dev Cert.TilesIdeal.nD,
          r.2.mem ((c.tc : Thread Cert.TilesIdeal.nD Cert.TilesIdeal.τ).loc Cert.TilesIdeal.main_v7) = v0 c
          ∧ r.2.mem ((c.tc : Thread Cert.TilesIdeal.nD Cert.TilesIdeal.τ).loc Cert.TilesIdeal.main_v9) = v1 c
          ∧ r.2.mem ((c.tc : Thread Cert.TilesIdeal.nD Cert.TilesIdeal.τ).loc Cert.TilesIdeal.main_v11) = v2 c
          ∧ r.2.mem ((c.tc : Thread Cert.TilesIdeal.nD Cert.TilesIdeal.τ).loc Cert.TilesIdeal.main_arg0) = m ((c.tc : Thread Cert.TilesIdeal.nD Cert.TilesIdeal.τ).loc Cert.TilesIdeal.main_arg0))
      ∧ θ_run (Cert.ColumnsIdeal.defs (F := Ideal)) (onTc (τ := Cert.ColumnsIdeal.τ) (Cert.ColumnsIdeal.main (F := Ideal))) ⟨m', fun _ => 0, g'⟩ (fun r => ∀ c : Dev Cert.ColumnsIdeal.nD,
          r.2.mem ((c.tc : Thread Cert.ColumnsIdeal.nD Cert.ColumnsIdeal.τ).loc Cert.ColumnsIdeal.main_v7) = v0 c
          ∧ r.2.mem ((c.tc : Thread Cert.ColumnsIdeal.nD Cert.ColumnsIdeal.τ).loc Cert.ColumnsIdeal.main_v9) = v1 c
          ∧ r.2.mem ((c.tc : Thread Cert.ColumnsIdeal.nD Cert.ColumnsIdeal.τ).loc Cert.ColumnsIdeal.main_v11) = v2 c
          ∧ r.2.mem ((c.tc : Thread Cert.ColumnsIdeal.nD Cert.ColumnsIdeal.τ).loc Cert.ColumnsIdeal.main_arg0) = m' ((c.tc : Thread Cert.ColumnsIdeal.nD Cert.ColumnsIdeal.τ).loc Cert.ColumnsIdeal.main_arg0))

def Claim : Prop :=
  ∃ (hKernel : Cert.Kernel.Facts) (hKernelIdeal : Cert.KernelIdeal.Facts) (hReferenceIdeal : Cert.ReferenceIdeal.Facts) (hTiles : Cert.Tiles.Facts) (hTilesIdeal : Cert.TilesIdeal.Facts) (hColumnsIdeal : Cert.ColumnsIdeal.Facts),
    quiescent_Kernel (hKernel := hKernel)
    ∧ quiescent_KernelIdeal (hKernelIdeal := hKernelIdeal)
    ∧ quiescent_ReferenceIdeal (hReferenceIdeal := hReferenceIdeal)
    ∧ quiescent_Tiles (hTiles := hTiles)
    ∧ quiescent_TilesIdeal (hTilesIdeal := hTilesIdeal)
    ∧ quiescent_ColumnsIdeal (hColumnsIdeal := hColumnsIdeal)
    ∧ preserves_Kernel_KernelIdeal
    ∧ algebraic_KernelIdeal_ReferenceIdeal (hKernelIdeal := hKernelIdeal) (hReferenceIdeal := hReferenceIdeal)
    ∧ preserves_Tiles_TilesIdeal
    ∧ algebraic_TilesIdeal_ColumnsIdeal (hTilesIdeal := hTilesIdeal) (hColumnsIdeal := hColumnsIdeal)
-- ==== Kernel.lean ====
abbrev S4x120000x4 : Shape := ⟨3, ![4, 120000, 4]⟩
abbrev S4x4x120000 : Shape := ⟨3, ![4, 4, 120000]⟩
abbrev S16x120000 : Shape := ⟨2, ![16, 120000]⟩
abbrev S4x120000 : Shape := ⟨2, ![4, 120000]⟩
abbrev S4x2x120000 : Shape := ⟨3, ![4, 2, 120000]⟩
abbrev S4x3x120000 : Shape := ⟨3, ![4, 3, 120000]⟩
abbrev S16x16384 : Shape := ⟨2, ![16, 16384]⟩
abbrev S4x4x16384 : Shape := ⟨3, ![4, 4, 16384]⟩
abbrev S4x16384 : Shape := ⟨2, ![4, 16384]⟩
abbrev S4x2x16384 : Shape := ⟨3, ![4, 2, 16384]⟩
abbrev S4x3x16384 : Shape := ⟨3, ![4, 3, 16384]⟩
abbrev S4x1x16384 : Shape := ⟨3, ![4, 1, 16384]⟩
abbrev S4x120000x2 : Shape := ⟨3, ![4, 120000, 2]⟩
abbrev S4x120000x3 : Shape := ⟨3, ![4, 120000, 3]⟩

abbrev nBuf : Space → Nat
  | .hbm => 25
  | .vmem => 28
  | .smem => 0
  | _ => 0

abbrev bufTy : (tb : Table) → Fin (tcTables nBuf tb) → BufTy
  | .hbm, ⟨0, _⟩ => ⟨S4x120000x4, .f32⟩
  | .hbm, ⟨1, _⟩ => ⟨S4x4x120000, .f32⟩
  | .hbm, ⟨2, _⟩ => ⟨S16x120000, .f32⟩
  | .hbm, ⟨3, _⟩ => ⟨S4x4x120000, .f32⟩
  | .hbm, ⟨4, _⟩ => ⟨S4x120000, .i32⟩
  | .hbm, ⟨5, _⟩ => ⟨S4x2x120000, .i32⟩
  | .hbm, ⟨6, _⟩ => ⟨S4x2x120000, .f32⟩
  | .hbm, ⟨7, _⟩ => ⟨S4x120000, .i32⟩
  | .hbm, ⟨8, _⟩ => ⟨S4x3x120000, .i32⟩
  | .hbm, ⟨9, _⟩ => ⟨S4x2x120000, .f32⟩
  | .hbm, ⟨10, _⟩ => ⟨S4x120000, .i32⟩
  | .hbm, ⟨11, _⟩ => ⟨S4x2x120000, .i32⟩
  | .hbm, ⟨12, _⟩ => ⟨S4x2x120000, .f32⟩
  | .hbm, ⟨13, _⟩ => ⟨S4x120000, .i32⟩
  | .hbm, ⟨14, _⟩ => ⟨S4x3x120000, .i32⟩
  | .hbm, ⟨15, _⟩ => ⟨S4x2x120000, .f32⟩
  | .hbm, ⟨16, _⟩ => ⟨S4x120000x4, .f32⟩
  | .hbm, ⟨17, _⟩ => ⟨S4x120000x2, .i32⟩
  | .hbm, ⟨18, _⟩ => ⟨S4x120000x2, .f32⟩
  | .hbm, ⟨19, _⟩ => ⟨S4x120000x3, .i32⟩
  | .hbm, ⟨20, _⟩ => ⟨S4x120000x2, .f32⟩
  | .hbm, ⟨21, _⟩ => ⟨S4x120000x2, .i32⟩
  | .hbm, ⟨22, _⟩ => ⟨S4x120000x2, .f32⟩
  | .hbm, ⟨23, _⟩ => ⟨S4x120000x3, .i32⟩
  | .hbm, ⟨24, _⟩ => ⟨S4x120000x2, .f32⟩
  | .local _ .vmem, ⟨0, _⟩ => ⟨S16x16384, .f32⟩
  | .local _ .vmem, ⟨1, _⟩ => ⟨S16x16384, .f32⟩
  | .local _ .vmem, ⟨2, _⟩ => ⟨S4x4x16384, .f32⟩
  | .local _ .vmem, ⟨3, _⟩ => ⟨S4x4x16384, .f32⟩
  | .local _ .vmem, ⟨4, _⟩ => ⟨S4x16384, .i32⟩
  | .local _ .vmem, ⟨5, _⟩ => ⟨S4x16384, .i32⟩
  | .local _ .vmem, ⟨6, _⟩ => ⟨S4x2x16384, .i32⟩
  | .local _ .vmem, ⟨7, _⟩ => ⟨S4x2x16384, .i32⟩
  | .local _ .vmem, ⟨8, _⟩ => ⟨S4x2x16384, .f32⟩
  | .local _ .vmem, ⟨9, _⟩ => ⟨S4x2x16384, .f32⟩
  | .local _ .vmem, ⟨10, _⟩ => ⟨S4x16384, .i32⟩
  | .local _ .vmem, ⟨11, _⟩ => ⟨S4x16384, .i32⟩
  | .local _ .vmem, ⟨12, _⟩ => ⟨S4x3x16384, .i32⟩
  | .local _ .vmem, ⟨13, _⟩ => ⟨S4x3x16384, .i32⟩
  | .local _ .vmem, ⟨14, _⟩ => ⟨S4x2x16384, .f32⟩
  | .local _ .vmem, ⟨15, _⟩ => ⟨S4x2x16384, .f32⟩
  | .local _ .vmem, ⟨16, _⟩ => ⟨S4x16384, .i32⟩
  | .local _ .vmem, ⟨17, _⟩ => ⟨S4x16384, .i32⟩
  | .local _ .vmem, ⟨18, _⟩ => ⟨S4x2x16384, .i32⟩
  | .local _ .vmem, ⟨19, _⟩ => ⟨S4x2x16384, .i32⟩
  | .local _ .vmem, ⟨20, _⟩ => ⟨S4x2x16384, .f32⟩
  | .local _ .vmem, ⟨21, _⟩ => ⟨S4x2x16384, .f32⟩
  | .local _ .vmem, ⟨22, _⟩ => ⟨S4x16384, .i32⟩
  | .local _ .vmem, ⟨23, _⟩ => ⟨S4x16384, .i32⟩
  | .local _ .vmem, ⟨24, _⟩ => ⟨S4x3x16384, .i32⟩
  | .local _ .vmem, ⟨25, _⟩ => ⟨S4x3x16384, .i32⟩
  | .local _ .vmem, ⟨26, _⟩ => ⟨S4x2x16384, .f32⟩
  | .local _ .vmem, ⟨27, _⟩ => ⟨S4x2x16384, .f32⟩
  | _, _ => ⟨S4x120000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev main_v2_4 : Ref sig .tc := ⟨.hbm, 7, rfl⟩
abbrev main_v2_5 : Ref sig .tc := ⟨.hbm, 8, rfl⟩
abbrev main_v2_6 : Ref sig .tc := ⟨.hbm, 9, rfl⟩
abbrev main_v2_7 : Ref sig .tc := ⟨.hbm, 10, rfl⟩
abbrev main_v2_8 : Ref sig .tc := ⟨.hbm, 11, rfl⟩
abbrev main_v2_9 : Ref sig .tc := ⟨.hbm, 12, rfl⟩
abbrev main_v2_10 : Ref sig .tc := ⟨.hbm, 13, rfl⟩
abbrev main_v2_11 : Ref sig .tc := ⟨.hbm, 14, rfl⟩
abbrev main_v2_12 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2x16384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16384 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x3x16384 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x16384 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2x16384 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x16384 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x3x16384 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x2x16384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x120000x4 : Shape := ⟨3, ![4, 120000, 4]⟩
abbrev S4x120000x1 : Shape := ⟨3, ![4, 120000, 1]⟩
abbrev S4x120000 : Shape := ⟨2, ![4, 120000]⟩
abbrev S_ : Shape := ⟨0, ![]⟩
abbrev S4x120000x2 : Shape := ⟨3, ![4, 120000, 2]⟩
abbrev S4x120000x3 : Shape := ⟨3, ![4, 120000, 3]⟩

abbrev nBuf : Space → Nat
  | .hbm => 185
  | .vmem => 0
  | .smem => 0
  | _ => 0

abbrev hbmTy0_0 (i : Nat) : BufTy := match i % 128 with
  | 0 => ⟨S4x120000x4, .f32⟩
  | 1 => ⟨S4x120000x1, .f32⟩
  | 2 => ⟨S4x120000, .f32⟩
  | 3 => ⟨S4x120000, .f32⟩
  | 4 => ⟨S4x120000x1, .f32⟩
  | 5 => ⟨S4x120000, .f32⟩
  | 6 => ⟨S4x120000, .f32⟩
  | 7 => ⟨S4x120000, .f32⟩
  | 8 => ⟨S4x120000, .f32⟩
  | 9 => ⟨S4x120000x1, .f32⟩
  | 10 => ⟨S4x120000, .f32⟩
  | 11 => ⟨S4x120000x1, .f32⟩
  | 12 => ⟨S4x120000, .f32⟩
  | 13 => ⟨S4x120000, .f32⟩
  | 14 => ⟨S_, .f32⟩
  | 15 => ⟨S4x120000, .f32⟩
  | 16 => ⟨S4x120000, .f32⟩
  | 17 => ⟨S_, .f32⟩
  | 18 => ⟨S4x120000, .f32⟩
  | 19 => ⟨S4x120000, .f32⟩
  | 20 => ⟨S4x120000x1, .f32⟩
  | 21 => ⟨S4x120000, .f32⟩
  | 22 => ⟨S4x120000x1, .f32⟩
  | 23 => ⟨S4x120000, .f32⟩
  | 24 => ⟨S4x120000x1, .f32⟩
  | 25 => ⟨S4x120000x1, .f32⟩
  | 26 => ⟨S4x120000x1, .f32⟩
  | 27 => ⟨S4x120000x1, .f32⟩
  | 28 => ⟨S4x120000x4, .f32⟩
  | 29 => ⟨S4x120000x1, .f32⟩
  | 30 => ⟨S4x120000, .f32⟩
  | 31 => ⟨S_, .f32⟩
  | 32 => ⟨S4x120000, .f32⟩
  | 33 => ⟨S4x120000, .f32⟩
  | 34 => ⟨S_, .f32⟩
  | 35 => ⟨S4x120000, .f32⟩
  | 36 => ⟨S4x120000, .f32⟩
  | 37 => ⟨S_, .f32⟩
  | 38 => ⟨S4x120000, .f32⟩
  | 39 => ⟨S4x120000, .f32⟩
  | 40 => ⟨S4x120000, .i32⟩
  | 41 => ⟨S4x120000, .f32⟩
  | 42 => ⟨S4x120000, .f32⟩
  | 43 => ⟨S4x120000x1, .f32⟩
  | 44 => ⟨S4x120000, .f32⟩
  | 45 => ⟨S_, .f32⟩
  | 46 => ⟨S4x120000, .f32⟩
  | 47 => ⟨S4x120000, .f32⟩
  | 48 => ⟨S_, .f32⟩
  | 49 => ⟨S4x120000, .f32⟩
  | 50 => ⟨S4x120000, .f32⟩
  | 51 => ⟨S_, .f32⟩
  | 52 => ⟨S4x120000, .f32⟩
  | 53 => ⟨S4x120000, .f32⟩
  | 54 => ⟨S4x120000, .i32⟩
  | 55 => ⟨S4x120000, .f32⟩
  | 56 => ⟨S4x120000, .f32⟩
  | 57 => ⟨S4x120000x1, .f32⟩
  | 58 => ⟨S4x120000, .f32⟩
  | 59 => ⟨S_, .f32⟩
  | 60 => ⟨S4x120000, .f32⟩
  | 61 => ⟨S4x120000, .f32⟩
  | 62 => ⟨S_, .f32⟩
  | 63 => ⟨S4x120000, .f32⟩
  | 64 => ⟨S4x120000, .f32⟩
  | 65 => ⟨S_, .f32⟩
  | 66 => ⟨S4x120000, .f32⟩
  | 67 => ⟨S4x120000, .f32⟩
  | 68 => ⟨S4x120000, .i32⟩
  | 69 => ⟨S4x120000, .f32⟩
  | 70 => ⟨S4x120000, .f32⟩
  | 71 => ⟨S_, .i32⟩
  | 72 => ⟨S_, .i32⟩
  | 73 => ⟨S_, .i32⟩
  | 74 => ⟨S4x120000, .i32⟩
  | 75 => ⟨S4x120000, .i32⟩
  | 76 => ⟨S_, .i32⟩
  | 77 => ⟨S4x120000, .i32⟩
  | 78 => ⟨S4x120000, .i32⟩
  | 79 => ⟨S4x120000x1, .i32⟩
  | 80 => ⟨S4x120000x1, .i32⟩
  | 81 => ⟨S4x120000x2, .i32⟩
  | 82 => ⟨S4x120000x1, .i32⟩
  | 83 => ⟨S4x120000x1, .i32⟩
  | 84 => ⟨S4x120000x1, .i32⟩
  | 85 => ⟨S4x120000x3, .i32⟩
  | 86 => ⟨S4x120000x1, .f32⟩
  | 87 => ⟨S4x120000x1, .f32⟩
  | 88 => ⟨S4x120000x2, .f32⟩
  | 89 => ⟨S4x120000x1, .f32⟩
  | 90 => ⟨S4x120000x1, .f32⟩
  | 91 => ⟨S4x120000x2, .f32⟩
  | 92 => ⟨S_, .i32⟩
  | 93 => ⟨S4x120000, .i32⟩
  | 94 => ⟨S4x120000, .i32⟩
  | 95 => ⟨S4x120000, .i32⟩
  | 96 => ⟨S_, .i32⟩
  | 97 => ⟨S4x120000, .i32⟩
  | 98 => ⟨S4x120000, .i32⟩
  | 99 => ⟨S_, .i32⟩
  | 100 => ⟨S4x120000, .i32⟩
  | 101 => ⟨S4x120000, .i32⟩
  | 102 => ⟨S_, .i32⟩
  | 103 => ⟨S4x120000, .i32⟩
  | 104 => ⟨S4x120000, .i32⟩
  | 105 => ⟨S4x120000, .i32⟩
  | 106 => ⟨S4x120000, .i32⟩
  | 107 => ⟨S4x120000x1, .f32⟩
  | 108 => ⟨S4x120000, .f32⟩
  | 109 => ⟨S_, .f32⟩
  | 110 => ⟨S4x120000, .f32⟩
  | 111 => ⟨S4x120000, .f32⟩
  | 112 => ⟨S_, .f32⟩
  | 113 => ⟨S4x120000, .f32⟩
  | 114 => ⟨S4x120000, .f32⟩
  | 115 => ⟨S_, .f32⟩
  | 116 => ⟨S4x120000, .f32⟩
  | 117 => ⟨S4x120000, .f32⟩
  | 118 => ⟨S4x120000, .i32⟩
  | 119 => ⟨S4x120000, .f32⟩
  | 120 => ⟨S4x120000, .f32⟩
  | 121 => ⟨S4x120000x1, .f32⟩
  | 122 => ⟨S4x120000, .f32⟩
  | 123 => ⟨S_, .f32⟩
  | 124 => ⟨S4x120000, .f32⟩
  | 125 => ⟨S4x120000, .f32⟩
  | 126 => ⟨S_, .f32⟩
  | 127 => ⟨S4x120000, .f32⟩
  | _ => ⟨S4x120000x4, .f32⟩

abbrev hbmTy0_1 (i : Nat) : BufTy := match i % 128 with
  | 0 => ⟨S4x120000, .f32⟩
  | 1 => ⟨S_, .f32⟩
  | 2 => ⟨S4x120000, .f32⟩
  | 3 => ⟨S4x120000, .f32⟩
  | 4 => ⟨S4x120000, .i32⟩
  | 5 => ⟨S4x120000, .f32⟩
  | 6 => ⟨S4x120000, .f32⟩
  | 7 => ⟨S4x120000x1, .f32⟩
  | 8 => ⟨S4x120000, .f32⟩
  | 9 => ⟨S_, .f32⟩
  | 10 => ⟨S4x120000, .f32⟩
  | 11 => ⟨S4x120000, .f32⟩
  | 12 => ⟨S_, .f32⟩
  | 13 => ⟨S4x120000, .f32⟩
  | 14 => ⟨S4x120000, .f32⟩
  | 15 => ⟨S_, .f32⟩
  | 16 => ⟨S4x120000, .f32⟩
  | 17 => ⟨S4x120000, .f32⟩
  | 18 => ⟨S4x120000, .i32⟩
  | 19 => ⟨S4x120000, .f32⟩
  | 20 => ⟨S4x120000, .f32⟩
  | 21 => ⟨S_, .i32⟩
  | 22 => ⟨S_, .i32⟩
  | 23 => ⟨S_, .i32⟩
  | 24 => ⟨S4x120000, .i32⟩
  | 25 => ⟨S4x120000, .i32⟩
  | 26 => ⟨S_, .i32⟩
  | 27 => ⟨S4x120000, .i32⟩
  | 28 => ⟨S4x120000, .i32⟩
  | 29 => ⟨S4x120000x1, .i32⟩
  | 30 => ⟨S4x120000x1, .i32⟩
  | 31 => ⟨S4x120000x2, .i32⟩
  | 32 => ⟨S4x120000x1, .i32⟩
  | 33 => ⟨S4x120000x1, .i32⟩
  | 34 => ⟨S4x120000x1, .i32⟩
  | 35 => ⟨S4x120000x3, .i32⟩
  | 36 => ⟨S4x120000x1, .f32⟩
  | 37 => ⟨S4x120000x1, .f32⟩
  | 38 => ⟨S4x120000x2, .f32⟩
  | 39 => ⟨S4x120000x1, .f32⟩
  | 40 => ⟨S4x120000x1, .f32⟩
  | 41 => ⟨S4x120000x2, .f32⟩
  | 42 => ⟨S_, .i32⟩
  | 43 => ⟨S4x120000, .i32⟩
  | 44 => ⟨S4x120000, .i32⟩
  | 45 => ⟨S4x120000, .i32⟩
  | 46 => ⟨S_, .i32⟩
  | 47 => ⟨S4x120000, .i32⟩
  | 48 => ⟨S4x120000, .i32⟩
  | 49 => ⟨S_, .i32⟩
  | 50 => ⟨S4x120000, .i32⟩
  | 51 => ⟨S4x120000, .i32⟩
  | 52 => ⟨S_, .i32⟩
  | 53 => ⟨S4x120000, .i32⟩
  | 54 => ⟨S4x120000, .i32⟩
  | 55 => ⟨S4x120000, .i32⟩
  | 56 => ⟨S4x120000, .i32⟩
  | _ => ⟨S4x120000x4, .f32⟩

abbrev hbmTy (i : Nat) : BufTy := match i / 128 with
  | 0 => hbmTy0_0 i
  | 1 => hbmTy0_1 i
  | _ => ⟨S4x120000x4, .f32⟩

abbrev bufTy : (tb : Table) → Fin (tcTables nBuf tb) → BufTy
  | .hbm, ⟨i, _⟩ => hbmTy i
  | _, _ => ⟨S4x120000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_1 : Ref sig .tc := ⟨.hbm, 31, rfl⟩
abbrev main_v28 : Ref sig .tc := ⟨.hbm, 32, rfl⟩
abbrev main_v29 : Ref sig .tc := ⟨.hbm, 33, rfl⟩
abbrev main_cst_2 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_4 : Ref sig .tc := ⟨.hbm, 45, rfl⟩
abbrev main_v39 : Ref sig .tc := ⟨.hbm, 46, rfl⟩
abbrev main_v40 : Ref sig .tc := ⟨.hbm, 47, rfl⟩
abbrev main_cst_5 : Ref sig .tc := ⟨.hbm, 48, rfl⟩
abbrev main_v41 : Ref sig .tc := ⟨.hbm, 49, rfl⟩
abbrev main_v42 : Ref sig .tc := ⟨.hbm, 50, rfl⟩
abbrev main_cst_6 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_7 : Ref sig .tc := ⟨.hbm, 59, rfl⟩
abbrev main_v50 : Ref sig .tc := ⟨.hbm, 60, rfl⟩
abbrev main_v51 : Ref sig .tc := ⟨.hbm, 61, rfl⟩
abbrev main_cst_8 : Ref sig .tc := ⟨.hbm, 62, rfl⟩
abbrev main_v52 : Ref sig .tc := ⟨.hbm, 63, rfl⟩
abbrev main_v53 : Ref sig .tc := ⟨.hbm, 64, rfl⟩
abbrev main_cst_9 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c : Ref sig .tc := ⟨.hbm, 71, rfl⟩
abbrev main_c_10 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_11 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_12 : Ref sig .tc := ⟨.hbm, 96, rfl⟩
abbrev main_v76 : Ref sig .tc := ⟨.hbm, 97, rfl⟩
abbrev main_v77 : Ref sig .tc := ⟨.hbm, 98, rfl⟩
abbrev main_c_13 : Ref sig .tc := ⟨.hbm, 99, rfl⟩
abbrev main_v78 : Ref sig .tc := ⟨.hbm, 100, rfl⟩
abbrev main_v79 : Ref sig .tc := ⟨.hbm, 101, rfl⟩
abbrev main_c_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_15 : Ref sig .tc := ⟨.hbm, 109, rfl⟩
abbrev main_v86 : Ref sig .tc := ⟨.hbm, 110, rfl⟩
abbrev main_v87 : Ref sig .tc := ⟨.hbm, 111, rfl⟩
abbrev main_cst_16 : Ref sig .tc := ⟨.hbm, 112, rfl⟩
abbrev main_v88 : Ref sig .tc := ⟨.hbm, 113, rfl⟩
abbrev main_v89 : Ref sig .tc := ⟨.hbm, 114, rfl⟩
abbrev main_cst_17 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_18 : Ref sig .tc := ⟨.hbm, 123, rfl⟩
abbrev main_v97 : Ref sig .tc := ⟨.hbm, 124, rfl⟩
abbrev main_v98 : Ref sig .tc := ⟨.hbm, 125, rfl⟩
abbrev main_cst_19 : Ref sig .tc := ⟨.hbm, 126, rfl⟩
abbrev main_v99 : Ref sig .tc := ⟨.hbm, 127, rfl⟩
abbrev main_v100 : Ref sig .tc := ⟨.hbm, 128, rfl⟩
abbrev main_cst_20 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_21 : Ref sig .tc := ⟨.hbm, 137, rfl⟩
abbrev main_v108 : Ref sig .tc := ⟨.hbm, 138, rfl⟩
abbrev main_v109 : Ref sig .tc := ⟨.hbm, 139, rfl⟩
abbrev main_cst_22 : Ref sig .tc := ⟨.hbm, 140, rfl⟩
abbrev main_v110 : Ref sig .tc := ⟨.hbm, 141, rfl⟩
abbrev main_v111 : Ref sig .tc := ⟨.hbm, 142, rfl⟩
abbrev main_cst_23 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_24 : Ref sig .tc := ⟨.hbm, 149, rfl⟩
abbrev main_c_25 : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_c_26 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_c_27 : Ref sig .tc := ⟨.hbm, 174, rfl⟩
abbrev main_v134 : Ref sig .tc := ⟨.hbm, 175, rfl⟩
abbrev main_v135 : Ref sig .tc := ⟨.hbm, 176, rfl⟩
abbrev main_c_28 : Ref sig .tc := ⟨.hbm, 177, rfl⟩
abbrev main_v136 : Ref sig .tc := ⟨.hbm, 178, rfl⟩
abbrev main_v137 : Ref sig .tc := ⟨.hbm, 179, rfl⟩
abbrev main_c_29 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩

abbrev nD : Nat := 1
abbrev τ : Topo := Topo.v7x

variable {F : FTy → Type} [FloatOps F]
-- ==== Tiles.lean ====
abbrev S4x120000x4 : Shape := ⟨3, ![4, 120000, 4]⟩
abbrev S4x4x120000 : Shape := ⟨3, ![4, 4, 120000]⟩
abbrev S16x120000 : Shape := ⟨2, ![16, 120000]⟩
abbrev S_ : Shape := ⟨0, ![]⟩
abbrev S16x120064 : Shape := ⟨2, ![16, 120064]⟩
abbrev S4x4x120064 : Shape := ⟨3, ![4, 4, 120064]⟩
abbrev S16x1024 : Shape := ⟨2, ![16, 1024]⟩
abbrev S4x4x1024 : Shape := ⟨3, ![4, 4, 1024]⟩
abbrev S16 : Shape := ⟨1, ![16]⟩
abbrev S1x16 : Shape := ⟨2, ![1, 16]⟩
abbrev S1x1x16 : Shape := ⟨3, ![1, 1, 16]⟩
abbrev S1x4x1024 : Shape := ⟨3, ![1, 4, 1024]⟩
abbrev S4x1024 : Shape := ⟨2, ![4, 1024]⟩
abbrev S16x256 : Shape := ⟨2, ![16, 256]⟩
abbrev S1x4x256 : Shape := ⟨3, ![1, 4, 256]⟩
abbrev S4x256 : Shape := ⟨2, ![4, 256]⟩
abbrev S4x120000x1 : Shape := ⟨3, ![4, 120000, 1]⟩
abbrev S4x120000 : Shape := ⟨2, ![4, 120000]⟩

abbrev nBuf : Table → Nat
  | .hbm => 15
  | .local .scVector .vmem => 2
  | _ => 0

abbrev bufTy : (tb : Table) → Fin (nBuf tb) → BufTy
  | .hbm, ⟨0, _⟩ => ⟨S4x120000x4, .f32⟩
  | .hbm, ⟨1, _⟩ => ⟨S4x4x120000, .f32⟩
  | .hbm, ⟨2, _⟩ => ⟨S16x120000, .f32⟩
  | .hbm, ⟨3, _⟩ => ⟨S_, .i32⟩
  | .hbm, ⟨4, _⟩ => ⟨S_, .f32⟩
  | .hbm, ⟨5, _⟩ => ⟨S16x120064, .f32⟩
  | .hbm, ⟨6, _⟩ => ⟨S4x4x120064, .f32⟩
  | .hbm, ⟨7, _⟩ => ⟨S4x4x120000, .f32⟩
  | .hbm, ⟨8, _⟩ => ⟨S4x120000x4, .f32⟩
  | .hbm, ⟨9, _⟩ => ⟨S4x120000x1, .f32⟩
  | .hbm, ⟨10, _⟩ => ⟨S4x120000, .f32⟩
  | .hbm, ⟨11, _⟩ => ⟨S4x120000x1, .f32⟩
  | .hbm, ⟨12, _⟩ => ⟨S4x120000, .f32⟩
  | .hbm, ⟨13, _⟩ => ⟨S4x120000x1, .f32⟩
  | .hbm, ⟨14, _⟩ => ⟨S4x120000, .f32⟩
  | .local .scVector .vmem, ⟨0, _⟩ => ⟨S16x1024, .f32⟩
  | .local .scVector .vmem, ⟨1, _⟩ => ⟨S4x4x1024, .f32⟩
  | _, _ => ⟨S4x120000x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v2 : BitVec 32 := Scalar.addi c0_i32_0 c4_i32
  let c1_i32 : BitVec 32 := 1#32
  ⟨c0_i32_0, v2, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg6 : BitVec 32 := Scf.iv c0_i32_0 c1_i32 k0_t1
  let v6 : BitVec 32 := Scalar.muli c32_i32 arg6
  let v7 : BitVec 32 := Scalar.addi v1 v6
  let c117_i32 : BitVec 32 := 117#32
  let v8 : BitVec 1 := Scalar.cmpi .slt v7 c117_i32
  let v9 : BitVec 32 := Scalar.extui v8
  let c0_i32_3 : BitVec 32 := 0#32
  let v10 : BitVec 1 := Scalar.cmpi .ne v9 c0_i32_3
  v10

def k0_off1 (i : grid0.Coords) (k0_t1 : Fin k0_t1_loop.trips) : Fin 2 → Nat :=
  let c0_i32_32_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg6 : BitVec 32 := Scf.iv c0_i32_0 c1_i32 k0_t1
  let v6 : BitVec 32 := Scalar.muli c32_i32 arg6
  let v7 : BitVec 32 := Scalar.addi v1 v6
  let c1024_i32 : BitVec 32 := 1024#32
  let v11 : BitVec 32 := Scalar.muli v7 c1024_i32
  ![0, v11.toNat]
@[reducible] def k0_t2_loop : Scf.Loop 32 :=
  let c0_i32_5 : BitVec 32 := 0#32
  let c64_i32 : BitVec 32 := 64#32
  let v12 : BitVec 32 := Scalar.addi c0_i32_5 c64_i32
  let c1_i32_6 : BitVec 32 := 1#32
  ⟨c0_i32_5, v12, c1_i32_6⟩
def k0_off2 (k0_t2 : Fin k0_t2_loop.trips) : Fin 2 → Nat :=
  let c0_i32_30 : BitVec 32 := 0#32
  let v17 : Index := Scalar.indexCast c0_i32_30
  let c0_i32_5 : BitVec 32 := 0#32
  let c1_i32_6 : BitVec 32 := 1#32
  let arg7 : BitVec 32 := Scf.iv c0_i32_5 c1_i32_6 k0_t2
  let c16_i32 : BitVec 32 := 16#32
  let v16 : BitVec 32 := Scalar.muli arg7 c16_i32
  let v18 : Index := Scalar.indexCast v16
  ![0, v18.toNat]
def k0_off3 (k0_t2 : Fin k0_t2_loop.trips) : Fin 2 → Nat :=
  let c4_i32_31 : BitVec 32 := 4#32
  let v20 : Index := Scalar.indexCast c4_i32_31
  let c0_i32_5 : BitVec 32 := 0#32
  let c1_i32_6 : BitVec 32 := 1#32
  let arg7 : BitVec 32 := Scf.iv c0_i32_5 c1_i32_6 k0_t2
  let c16_i32 : BitVec 32 := 16#32
  let v16 : BitVec 32 := Scalar.muli arg7 c16_i32
  let v21 : Index := Scalar.indexCast v16
  ![4, v21.toNat]
def k0_off4 (k0_t2 : Fin k0_t2_loop.trips) : Fin 2 → Nat :=
  let c8_i32 : BitVec 32 := 8#32
  let v23 : Index := Scalar.indexCast c8_i32
  let c0_i32_5 : BitVec 32 := 0#32
  let c1_i32_6 : BitVec 32 := 1#32
  let arg7 : BitVec 32 := Scf.iv c0_i32_5 c1_i32_6 k0_t2
  let c16_i32 : BitVec 32 := 16#32
  let v16 : BitVec 32 := Scalar.muli arg7 c16_i32
  let v24 : Index := Scalar.indexCast v16
  ![8, v24.toNat]
def k0_off5 (k0_t2 : Fin k0_t2_loop.trips) : Fin 2 → Nat :=
  let c12_i32 : BitVec 32 := 12#32
  let v26 : Index := Scalar.indexCast c12_i32
  let c0_i32_5 : BitVec 32 := 0#32
  let c1_i32_6 : BitVec 32 := 1#32
  let arg7 : BitVec 32 := Scf.iv c0_i32_5 c1_i32_6 k0_t2
  let c16_i32 : BitVec 32 := 16#32
  let v16 : BitVec 32 := Scalar.muli arg7 c16_i32
  let v27 : Index := Scalar.indexCast v16
  ![12, v27.toNat]
def k0_off6 (k0_t2 : Fin k0_t2_loop.trips) : Fin 3 → Nat :=
  let c0_i32_48 : BitVec 32 := 0#32
  let v84 : Index := Scalar.indexCast c0_i32_48
  let c0_i32_49 : BitVec 32 := 0#32
  let v85 : Index := Scalar.indexCast c0_i32_49
  let c0_i32_5 : BitVec 32 := 0#32
  let c1_i32_6 : BitVec 32 := 1#32
  let arg7 : BitVec 32 := Scf.iv c0_i32_5 c1_i32_6 k0_t2
  let c16_i32 : BitVec 32 := 16#32
  let v16 : BitVec 32 := Scalar.muli arg7 c16_i32
  let v86 : Index := Scalar.indexCast v16
  ![0, 0, v86.toNat]
def k0_off7 (k0_t2 : Fin k0_t2_loop.trips) : Fin 3 → Nat :=
  let c0_i32_50 : BitVec 32 := 0#32
  let v88 : Index := Scalar.indexCast c0_i32_50
  let c1_i32_51 : BitVec 32 := 1#32
  let v89 : Index := Scalar.indexCast c1_i32_51
  let c0_i32_5 : BitVec 32 := 0#32
  let c1_i32_6 : BitVec 32 := 1#32
  let arg7 : BitVec 32 := Scf.iv c0_i32_5 c1_i32_6 k0_t2
  let c16_i32 : BitVec 32 := 16#32
  let v16 : BitVec 32 := Scalar.muli arg7 c16_i32
  let v90 : Index := Scalar.indexCast v16
  ![0, 1, v90.toNat]
def k0_off8 (k0_t2 : Fin k0_t2_loop.trips) : Fin 3 → Nat :=
  let c0_i32_52 : BitVec 32 := 0#32
  let v92 : Index := Scalar.indexCast c0_i32_52
  let c2_i32_53 : BitVec 32 := 2#32
  let v93 : Index := Scalar.indexCast c2_i32_53
  let c0_i32_5 : BitVec 32 := 0#32
  let c1_i32_6 : BitVec 32 := 1#32
  let arg7 : BitVec 32 := Scf.iv c0_i32_5 c1_i32_6 k0_t2
  let c16_i32 : BitVec 32 := 16#32
  let v16 : BitVec 32 := Scalar.muli arg7 c16_i32
  let v94 : Index := Scalar.indexCast v16
  ![0, 2, v94.toNat]
def k0_off9 (k0_t2 : Fin k0_t2_loop.trips) : Fin 3 → Nat :=
  let c0_i32_54 : BitVec 32 := 0#32
  let v96 : Index := Scalar.indexCast c0_i32_54
  let c3_i32_55 : BitVec 32 := 3#32
  let v97 : Index := Scalar.indexCast c3_i32_55
  let c0_i32_5 : BitVec 32 := 0#32
  let c1_i32_6 : BitVec 32 := 1#32
  let arg7 : BitVec 32 := Scf.iv c0_i32_5 c1_i32_6 k0_t2
  let c16_i32 : BitVec 32 := 16#32
  let v16 : BitVec 32 := Scalar.muli arg7 c16_i32
  let v98 : Index := Scalar.indexCast v16
  ![0, 3, v98.toNat]
def k0_off10 (i : grid0.Coords) (k0_t1 : Fin k0_t1_loop.trips) : Fin 3 → Nat :=
  let c0_i32_9 : BitVec 32 := 0#32
  let c0_i32_32_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg6 : BitVec 32 := Scf.iv c0_i32_0 c1_i32 k0_t1
  let v6 : BitVec 32 := Scalar.muli c32_i32 arg6
  let v7 : BitVec 32 := Scalar.addi v1 v6
  let c1024_i32 : BitVec 32 := 1024#32
  let v11 : BitVec 32 := Scalar.muli v7 c1024_i32
  ![0, 0, v11.toNat]
@[reducible] def k0_t3_loop : Scf.Loop 32 :=
  let c0_i32_11 : BitVec 32 := 0#32
  let c64_i32_12 : BitVec 32 := 64#32
  let v13 : BitVec 32 := Scalar.addi c0_i32_11 c64_i32_12
  let c1_i32_13 : BitVec 32 := 1#32
  ⟨c0_i32_11, v13, c1_i32_13⟩
def k0_off11 (k0_t3 : Fin k0_t3_loop.trips) : Fin 2 → Nat :=
  let c1_i32_30 : BitVec 32 := 1#32
  let v17 : Index := Scalar.indexCast c1_i32_30
  let c0_i32_11 : BitVec 32 := 0#32
  let c1_i32_13 : BitVec 32 := 1#32
  let arg7 : BitVec 32 := Scf.iv c0_i32_11 c1_i32_13 k0_t3
  let c16_i32 : BitVec 32 := 16#32
  let v16 : BitVec 32 := Scalar.muli arg7 c16_i32
  let v18 : Index := Scalar.indexCast v16
  ![1, v18.toNat]
def k0_off12 (k0_t3 : Fin k0_t3_loop.trips) : Fin 2 → Nat :=
  let c5_i32 : BitVec 32 := 5#32
  let v20 : Index := Scalar.indexCast c5_i32
  let c0_i32_11 : BitVec 32 := 0#32
  let c1_i32_13 : BitVec 32 := 1#32
  let arg7 : BitVec 32 := Scf.iv c0_i32_11 c1_i32_13 k0_t3
  let c16_i32 : BitVec 32 := 16#32
  let v16 : BitVec 32 := Scalar.muli arg7 c16_i32
  let v21 : Index := Scalar.indexCast v16
  ![5, v21.toNat]
def k0_off13 (k0_t3 : Fin k0_t3_loop.trips) : Fin 2 → Nat :=
  let c9_i32 : BitVec 32 := 9#32
  let v23 : Index := Scalar.indexCast c9_i32
  let c0_i32_11 : BitVec 32 := 0#32
  let c1_i32_13 : BitVec 32 := 1#32
  let arg7 : BitVec 32 := Scf.iv c0_i32_11 c1_i32_13 k0_t3
  let c16_i32 : BitVec 32 := 16#32
  let v16 : BitVec 32 := Scalar.muli arg7 c16_i32
  let v24 : Index := Scalar.indexCast v16
  ![9, v24.toNat]
def k0_off14 (k0_t3 : Fin k0_t3_loop.trips) : Fin 2 → Nat :=
  let c13_i32 : BitVec 32 := 13#32
  let v26 : Index := Scalar.indexCast c13_i32
  let c0_i32_11 : BitVec 32 := 0#32
  let c1_i32_13 : BitVec 32 := 1#32
  let arg7 : BitVec 32 := Scf.iv c0_i32_11 c1_i32_13 k0_t3
  let c16_i32 : BitVec 32 := 16#32
  let v16 : BitVec 32 := Scalar.muli arg7 c16_i32
  let v27 : Index := Scalar.indexCast v16
  ![13, v27.toNat]
def k0_off15 (k0_t3 : Fin k0_t3_loop.trips) : Fin 3 → Nat :=
  let c1_i32_47 : BitVec 32 := 1#32
  let v84 : Index := Scalar.indexCast c1_i32_47
  let c0_i32_48 : BitVec 32 := 0#32
  let v85 : Index := Scalar.indexCast c0_i32_48
  let c0_i32_11 : BitVec 32 := 0#32
  let c1_i32_13 : BitVec 32 := 1#32
  let arg7 : BitVec 32 := Scf.iv c0_i32_11 c1_i32_13 k0_t3
  let c16_i32 : BitVec 32 := 16#32
  let v16 : BitVec 32 := Scalar.muli arg7 c16_i32
  let v86 : Index := Scalar.indexCast v16
  ![1, 0, v86.toNat]
def k0_off16 (k0_t3 : Fin k0_t3_loop.trips) : Fin 3 → Nat :=
  let c1_i32_49 : BitVec 32 := 1#32
  let v88 : Index := Scalar.indexCast c1_i32_49
  let c1_i32_50 : BitVec 32 := 1#32
  let v89 : Index := Scalar.indexCast c1_i32_50
  let c0_i32_11 : BitVec 32 := 0#32
  let c1_i32_13 : BitVec 32 := 1#32
  let arg7 : BitVec 32 := Scf.iv c0_i32_11 c1_i32_13 k0_t3
  let c16_i32 : BitVec 32 := 16#32
  let v16 : BitVec 32 := Scalar.muli arg7 c16_i32
  let v90 : Index := Scalar.indexCast v16
  ![1, 1, v90.toNat]
def k0_off17 (k0_t3 : Fin k0_t3_loop.trips) : Fin 3 → Nat :=
  let c1_i32_51 : BitVec 32 := 1#32
  let v92 : Index := Scalar.indexCast c1_i32_51
  let c2_i32_52 : BitVec 32 := 2#32
  let v93 : Index := Scalar.indexCast c2_i32_52
  let c0_i32_11 : BitVec 32 := 0#32
  let c1_i32_13 : BitVec 32 := 1#32
  let arg7 : BitVec 32 := Scf.iv c0_i32_11 c1_i32_13 k0_t3
  let c16_i32 : BitVec 32 := 16#32
  let v16 : BitVec 32 := Scalar.muli arg7 c16_i32
  let v94 : Index := Scalar.indexCast v16
  ![1, 2, v94.toNat]
def k0_off18 (k0_t3 : Fin k0_t3_loop.trips) : Fin 3 → Nat :=
  let c1_i32_53 : BitVec 32 := 1#32
  let v96 : Index := Scalar.indexCast c1_i32_53
  let c3_i32_54 : BitVec 32 := 3#32
  let v97 : Index := Scalar.indexCast c3_i32_54
  let c0_i32_11 : BitVec 32 := 0#32
  let c1_i32_13 : BitVec 32 := 1#32
  let arg7 : BitVec 32 := Scf.iv c0_i32_11 c1_i32_13 k0_t3
  let c16_i32 : BitVec 32 := 16#32
  let v16 : BitVec 32 := Scalar.muli arg7 c16_i32
  let v98 : Index := Scalar.indexCast v16
  ![1, 3, v98.toNat]
def k0_off19 (i : grid0.Coords) (k0_t1 : Fin k0_t1_loop.trips) : Fin 3 → Nat :=
  let c1_i32_16 : BitVec 32 := 1#32
  let c0_i32_32_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg6 : BitVec 32 := Scf.iv c0_i32_0 c1_i32 k0_t1
  let v6 : BitVec 32 := Scalar.muli c32_i32 arg6
  let v7 : BitVec 32 := Scalar.addi v1 v6
  let c1024_i32 : BitVec 32 := 1024#32
  let v11 : BitVec 32 := Scalar.muli v7 c1024_i32
  ![1, 0, v11.toNat]
@[reducible] def k0_t4_loop : Scf.Loop 32 :=
  let c0_i32_18 : BitVec 32 := 0#32
  let c64_i32_19 : BitVec 32 := 64#32
  let v14 : BitVec 32 := Scalar.addi c0_i32_18 c64_i32_19
  let c1_i32_20 : BitVec 32 := 1#32
  ⟨c0_i32_18, v14, c1_i32_20⟩
def k0_off20 (k0_t4 : Fin k0_t4_loop.trips) : Fin 2 → Nat :=
  let c2_i32_30 : BitVec 32 := 2#32
  let v17 : Index := Scalar.indexCast c2_i32_30
  let c0_i32_18 : BitVec 32 := 0#32
  let c1_i32_20 : BitVec 32 := 1#32
  let arg7 : BitVec 32 := Scf.iv c0_i32_18 c1_i32_20 k0_t4
  let c16_i32 : BitVec 32 := 16#32
  let v16 : BitVec 32 := Scalar.muli arg7 c16_i32
  let v18 : Index := Scalar.indexCast v16
  ![2, v18.toNat]
def k0_off21 (k0_t4 : Fin k0_t4_loop.trips) : Fin 2 → Nat :=
  let c6_i32 : BitVec 32 := 6#32
  let v20 : Index := Scalar.indexCast c6_i32
  let c0_i32_18 : BitVec 32 := 0#32
  let c1_i32_20 : BitVec 32 := 1#32
  let arg7 : BitVec 32 := Scf.iv c0_i32_18 c1_i32_20 k0_t4
  let c16_i32 : BitVec 32 := 16#32
  let v16 : BitVec 32 := Scalar.muli arg7 c16_i32
  let v21 : Index := Scalar.indexCast v16
  ![6, v21.toNat]
def k0_off22 (k0_t4 : Fin k0_t4_loop.trips) : Fin 2 → Nat :=
  let c10_i32 : BitVec 32 := 10#32
  let v23 : Index := Scalar.indexCast c10_i32
  let c0_i32_18 : BitVec 32 := 0#32
  let c1_i32_20 : BitVec 32 := 1#32
  let arg7 : BitVec 32 := Scf.iv c0_i32_18 c1_i32_20 k0_t4
  let c16_i32 : BitVec 32 := 16#32
  let v16 : BitVec 32 := Scalar.muli arg7 c16_i32
  let v24 : Index := Scalar.indexCast v16
  ![10, v24.toNat]
def k0_off23 (k0_t4 : Fin k0_t4_loop.trips) : Fin 2 → Nat :=
  let c14_i32 : BitVec 32 := 14#32
  let v26 : Index := Scalar.indexCast c14_i32
  let c0_i32_18 : BitVec 32 := 0#32
  let c1_i32_20 : BitVec 32 := 1#32
  let arg7 : BitVec 32 := Scf.iv c0_i32_18 c1_i32_20 k0_t4
  let c16_i32 : BitVec 32 := 16#32
  let v16 : BitVec 32 := Scalar.muli arg7 c16_i32
  let v27 : Index := Scalar.indexCast v16
  ![14, v27.toNat]
def k0_off24 (k0_t4 : Fin k0_t4_loop.trips) : Fin 3 → Nat :=
  let c2_i32_47 : BitVec 32 := 2#32
  let v84 : Index := Scalar.indexCast c2_i32_47
  let c0_i32_48 : BitVec 32 := 0#32
  let v85 : Index := Scalar.indexCast c0_i32_48
  let c0_i32_18 : BitVec 32 := 0#32
  let c1_i32_20 : BitVec 32 := 1#32
  let arg7 : BitVec 32 := Scf.iv c0_i32_18 c1_i32_20 k0_t4
  let c16_i32 : BitVec 32 := 16#32
  let v16 : BitVec 32 := Scalar.muli arg7 c16_i32
  let v86 : Index := Scalar.indexCast v16
  ![2, 0, v86.toNat]
def k0_off25 (k0_t4 : Fin k0_t4_loop.trips) : Fin 3 → Nat :=
  let c2_i32_49 : BitVec 32 := 2#32
  let v88 : Index := Scalar.indexCast c2_i32_49
  let c1_i32_50 : BitVec 32 := 1#32
  let v89 : Index := Scalar.indexCast c1_i32_50
  let c0_i32_18 : BitVec 32 := 0#32
  let c1_i32_20 : BitVec 32 := 1#32
  let arg7 : BitVec 32 := Scf.iv c0_i32_18 c1_i32_20 k0_t4
  let c16_i32 : BitVec 32 := 16#32
  let v16 : BitVec 32 := Scalar.muli arg7 c16_i32
  let v90 : Index := Scalar.indexCast v16
  ![2, 1, v90.toNat]
def k0_off26 (k0_t4 : Fin k0_t4_loop.trips) : Fin 3 → Nat :=
  let c2_i32_51 : BitVec 32 := 2#32
  let v92 : Index := Scalar.indexCast c2_i32_51
  let c2_i32_52 : BitVec 32 := 2#32
  let v93 : Index := Scalar.indexCast c2_i32_52
  let c0_i32_18 : BitVec 32 := 0#32
  let c1_i32_20 : BitVec 32 := 1#32
  let arg7 : BitVec 32 := Scf.iv c0_i32_18 c1_i32_20 k0_t4
  let c16_i32 : BitVec 32 := 16#32
  let v16 : BitVec 32 := Scalar.muli arg7 c16_i32
  let v94 : Index := Scalar.indexCast v16
  ![2, 2, v94.toNat]
def k0_off27 (k0_t4 : Fin k0_t4_loop.trips) : Fin 3 → Nat :=
  let c2_i32_53 : BitVec 32 := 2#32
  let v96 : Index := Scalar.indexCast c2_i32_53
  let c3_i32_54 : BitVec 32 := 3#32
  let v97 : Index := Scalar.indexCast c3_i32_54
  let c0_i32_18 : BitVec 32 := 0#32
  let c1_i32_20 : BitVec 32 := 1#32
  let arg7 : BitVec 32 := Scf.iv c0_i32_18 c1_i32_20 k0_t4
  let c16_i32 : BitVec 32 := 16#32
  let v16 : BitVec 32 := Scalar.muli arg7 c16_i32
  let v98 : Index := Scalar.indexCast v16
  ![2, 3, v98.toNat]
def k0_off28 (i : grid0.Coords) (k0_t1 : Fin k0_t1_loop.trips) : Fin 3 → Nat :=
  let c2_i32_23 : BitVec 32 := 2#32
  let c0_i32_32_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg6 : BitVec 32 := Scf.iv c0_i32_0 c1_i32 k0_t1
  let v6 : BitVec 32 := Scalar.muli c32_i32 arg6
  let v7 : BitVec 32 := Scalar.addi v1 v6
  let c1024_i32 : BitVec 32 := 1024#32
  let v11 : BitVec 32 := Scalar.muli v7 c1024_i32
  ![2, 0, v11.toNat]
@[reducible] def k0_t5_loop : Scf.Loop 32 :=
  let c0_i32_25 : BitVec 32 := 0#32
  let c64_i32_26 : BitVec 32 := 64#32
  let v15 : BitVec 32 := Scalar.addi c0_i32_25 c64_i32_26
  let c1_i32_27 : BitVec 32 := 1#32
  ⟨c0_i32_25, v15, c1_i32_27⟩
def k0_off29 (k0_t5 : Fin k0_t5_loop.trips) : Fin 2 → Nat :=
  let c3_i32_30 : BitVec 32 := 3#32
  let v17 : Index := Scalar.indexCast c3_i32_30
  let c0_i32_25 : BitVec 32 := 0#32
  let c1_i32_27 : BitVec 32 := 1#32
  let arg7 : BitVec 32 := Scf.iv c0_i32_25 c1_i32_27 k0_t5
  let c16_i32 : BitVec 32 := 16#32
  let v16 : BitVec 32 := Scalar.muli arg7 c16_i32
  let v18 : Index := Scalar.indexCast v16
  ![3, v18.toNat]
def k0_off30 (k0_t5 : Fin k0_t5_loop.trips) : Fin 2 → Nat :=
  let c7_i32 : BitVec 32 := 7#32
  let v20 : Index := Scalar.indexCast c7_i32
  let c0_i32_25 : BitVec 32 := 0#32
  let c1_i32_27 : BitVec 32 := 1#32
  let arg7 : BitVec 32 := Scf.iv c0_i32_25 c1_i32_27 k0_t5
  let c16_i32 : BitVec 32 := 16#32
  let v16 : BitVec 32 := Scalar.muli arg7 c16_i32
  let v21 : Index := Scalar.indexCast v16
  ![7, v21.toNat]
def k0_off31 (k0_t5 : Fin k0_t5_loop.trips) : Fin 2 → Nat :=
  let c11_i32 : BitVec 32 := 11#32
  let v23 : Index := Scalar.indexCast c11_i32
  let c0_i32_25 : BitVec 32 := 0#32
  let c1_i32_27 : BitVec 32 := 1#32
  let arg7 : BitVec 32 := Scf.iv c0_i32_25 c1_i32_27 k0_t5
  let c16_i32 : BitVec 32 := 16#32
  let v16 : BitVec 32 := Scalar.muli arg7 c16_i32
  let v24 : Index := Scalar.indexCast v16
  ![11, v24.toNat]
def k0_off32 (k0_t5 : Fin k0_t5_loop.trips) : Fin 2 → Nat :=
  let c15_i32 : BitVec 32 := 15#32
  let v26 : Index := Scalar.indexCast c15_i32
  let c0_i32_25 : BitVec 32 := 0#32
  let c1_i32_27 : BitVec 32 := 1#32
  let arg7 : BitVec 32 := Scf.iv c0_i32_25 c1_i32_27 k0_t5
  let c16_i32 : BitVec 32 := 16#32
  let v16 : BitVec 32 := Scalar.muli arg7 c16_i32
  let v27 : Index := Scalar.indexCast v16
  ![15, v27.toNat]
def k0_off33 (k0_t5 : Fin k0_t5_loop.trips) : Fin 3 → Nat :=
  let c3_i32_47 : BitVec 32 := 3#32
  let v84 : Index := Scalar.indexCast c3_i32_47
  let c0_i32_48 : BitVec 32 := 0#32
  let v85 : Index := Scalar.indexCast c0_i32_48
  let c0_i32_25 : BitVec 32 := 0#32
  let c1_i32_27 : BitVec 32 := 1#32
  let arg7 : BitVec 32 := Scf.iv c0_i32_25 c1_i32_27 k0_t5
  let c16_i32 : BitVec 32 := 16#32
  let v16 : BitVec 32 := Scalar.muli arg7 c16_i32
  let v86 : Index := Scalar.indexCast v16
  ![3, 0, v86.toNat]
def k0_off34 (k0_t5 : Fin k0_t5_loop.trips) : Fin 3 → Nat :=
  let c3_i32_49 : BitVec 32 := 3#32
  let v88 : Index := Scalar.indexCast c3_i32_49
  let c1_i32_50 : BitVec 32 := 1#32
  let v89 : Index := Scalar.indexCast c1_i32_50
  let c0_i32_25 : BitVec 32 := 0#32
  let c1_i32_27 : BitVec 32 := 1#32
  let arg7 : BitVec 32 := Scf.iv c0_i32_25 c1_i32_27 k0_t5
  let c16_i32 : BitVec 32 := 16#32
  let v16 : BitVec 32 := Scalar.muli arg7 c16_i32
  let v90 : Index := Scalar.indexCast v16
  ![3, 1, v90.toNat]
def k0_off35 (k0_t5 : Fin k0_t5_loop.trips) : Fin 3 → Nat :=
  let c3_i32_51 : BitVec 32 := 3#32
  let v92 : Index := Scalar.indexCast c3_i32_51
  let c2_i32_52 : BitVec 32 := 2#32
  let v93 : Index := Scalar.indexCast c2_i32_52
  let c0_i32_25 : BitVec 32 := 0#32
  let c1_i32_27 : BitVec 32 := 1#32
  let arg7 : BitVec 32 := Scf.iv c0_i32_25 c1_i32_27 k0_t5
  let c16_i32 : BitVec 32 := 16#32
  let v16 : BitVec 32 := Scalar.muli arg7 c16_i32
  let v94 : Index := Scalar.indexCast v16
  ![3, 2, v94.toNat]
def k0_off36 (k0_t5 : Fin k0_t5_loop.trips) : Fin 3 → Nat :=
  let c3_i32_53 : BitVec 32 := 3#32
  let v96 : Index := Scalar.indexCast c3_i32_53
  let c3_i32_54 : BitVec 32 := 3#32
  let v97 : Index := Scalar.indexCast c3_i32_54
  let c0_i32_25 : BitVec 32 := 0#32
  let c1_i32_27 : BitVec 32 := 1#32
  let arg7 : BitVec 32 := Scf.iv c0_i32_25 c1_i32_27 k0_t5
  let c16_i32 : BitVec 32 := 16#32
  let v16 : BitVec 32 := Scalar.muli arg7 c16_i32
  let v98 : Index := Scalar.indexCast v16
  ![3, 3, v98.toNat]
def k0_off37 (i : grid0.Coords) (k0_t1 : Fin k0_t1_loop.trips) : Fin 3 → Nat :=
  let c3_i32_29 : BitVec 32 := 3#32
  let c0_i32_32_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg6 : BitVec 32 := Scf.iv c0_i32_0 c1_i32 k0_t1
  let v6 : BitVec 32 := Scalar.muli c32_i32 arg6
  let v7 : BitVec 32 := Scalar.addi v1 v6
  let c1024_i32 : BitVec 32 := 1024#32
  let v11 : BitVec 32 := Scalar.muli v7 c1024_i32
  ![3, 0, v11.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .eq v1 c31_i32
  let v4 : BitVec 32 := Scalar.extui v3
  let c0_i32_2 : BitVec 32 := 0#32
  let v5 : BitVec 1 := Scalar.cmpi .ne v4 c0_i32_2
  v5

@[reducible] def k0_t6_loop : Scf.Loop 32 :=
  let c0_i32_4 : BitVec 32 := 0#32
  let c16_i32 : BitVec 32 := 16#32
  let v6 : BitVec 32 := Scalar.addi c0_i32_4 c16_i32
  let c1_i32_5 : BitVec 32 := 1#32
  ⟨c0_i32_4, v6, c1_i32_5⟩
def k0_off38 (k0_t6 : Fin k0_t6_loop.trips) : Fin 2 → Nat :=
  let c0_i32_30 : BitVec 32 := 0#32
  let v11 : Index := Scalar.indexCast c0_i32_30
  let c0_i32_4 : BitVec 32 := 0#32
  let c1_i32_5 : BitVec 32 := 1#32
  let arg6 : BitVec 32 := Scf.iv c0_i32_4 c1_i32_5 k0_t6
  let c16_i32_29 : BitVec 32 := 16#32
  let v10 : BitVec 32 := Scalar.muli arg6 c16_i32_29
  let v12 : Index := Scalar.indexCast v10
  ![0, v12.toNat]
def k0_off39 (k0_t6 : Fin k0_t6_loop.trips) : Fin 2 → Nat :=
  let c4_i32_31 : BitVec 32 := 4#32
  let v14 : Index := Scalar.indexCast c4_i32_31
  let c0_i32_4 : BitVec 32 := 0#32
  let c1_i32_5 : BitVec 32 := 1#32
  let arg6 : BitVec 32 := Scf.iv c0_i32_4 c1_i32_5 k0_t6
  let c16_i32_29 : BitVec 32 := 16#32
  let v10 : BitVec 32 := Scalar.muli arg6 c16_i32_29
  let v15 : Index := Scalar.indexCast v10
  ![4, v15.toNat]
def k0_off40 (k0_t6 : Fin k0_t6_loop.trips) : Fin 2 → Nat :=
  let c8_i32 : BitVec 32 := 8#32
  let v17 : Index := Scalar.indexCast c8_i32
  let c0_i32_4 : BitVec 32 := 0#32
  let c1_i32_5 : BitVec 32 := 1#32
  let arg6 : BitVec 32 := Scf.iv c0_i32_4 c1_i32_5 k0_t6
  let c16_i32_29 : BitVec 32 := 16#32
  let v10 : BitVec 32 := Scalar.muli arg6 c16_i32_29
  let v18 : Index := Scalar.indexCast v10
  ![8, v18.toNat]
def k0_off41 (k0_t6 : Fin k0_t6_loop.trips) : Fin 2 → Nat :=
  let c12_i32 : BitVec 32 := 12#32
  let v20 : Index := Scalar.indexCast c12_i32
  let c0_i32_4 : BitVec 32 := 0#32
  let c1_i32_5 : BitVec 32 := 1#32
  let arg6 : BitVec 32 := Scf.iv c0_i32_4 c1_i32_5 k0_t6
  let c16_i32_29 : BitVec 32 := 16#32
  let v10 : BitVec 32 := Scalar.muli arg6 c16_i32_29
  let v21 : Index := Scalar.indexCast v10
  ![12, v21.toNat]
def k0_off42 (k0_t6 : Fin k0_t6_loop.trips) : Fin 3 → Nat :=
  let c0_i32_48 : BitVec 32 := 0#32
  let v78 : Index := Scalar.indexCast c0_i32_48
  let c0_i32_49 : BitVec 32 := 0#32
  let v79 : Index := Scalar.indexCast c0_i32_49
  let c0_i32_4 : BitVec 32 := 0#32
  let c1_i32_5 : BitVec 32 := 1#32
  let arg6 : BitVec 32 := Scf.iv c0_i32_4 c1_i32_5 k0_t6
  let c16_i32_29 : BitVec 32 := 16#32
  let v10 : BitVec 32 := Scalar.muli arg6 c16_i32_29
  let v80 : Index := Scalar.indexCast v10
  ![0, 0, v80.toNat]
def k0_off43 (k0_t6 : Fin k0_t6_loop.trips) : Fin 3 → Nat :=
  let c0_i32_50 : BitVec 32 := 0#32
  let v82 : Index := Scalar.indexCast c0_i32_50
  let c1_i32_51 : BitVec 32 := 1#32
  let v83 : Index := Scalar.indexCast c1_i32_51
  let c0_i32_4 : BitVec 32 := 0#32
  let c1_i32_5 : BitVec 32 := 1#32
  let arg6 : BitVec 32 := Scf.iv c0_i32_4 c1_i32_5 k0_t6
  let c16_i32_29 : BitVec 32 := 16#32
  let v10 : BitVec 32 := Scalar.muli arg6 c16_i32_29
  let v84 : Index := Scalar.indexCast v10
  ![0, 1, v84.toNat]
def k0_off44 (k0_t6 : Fin k0_t6_loop.trips) : Fin 3 → Nat :=
  let c0_i32_52 : BitVec 32 := 0#32
  let v86 : Index := Scalar.indexCast c0_i32_52
  let c2_i32_53 : BitVec 32 := 2#32
  let v87 : Index := Scalar.indexCast c2_i32_53
  let c0_i32_4 : BitVec 32 := 0#32
  let c1_i32_5 : BitVec 32 := 1#32
  let arg6 : BitVec 32 := Scf.iv c0_i32_4 c1_i32_5 k0_t6
  let c16_i32_29 : BitVec 32 := 16#32
  let v10 : BitVec 32 := Scalar.muli arg6 c16_i32_29
  let v88 : Index := Scalar.indexCast v10
  ![0, 2, v88.toNat]
def k0_off45 (k0_t6 : Fin k0_t6_loop.trips) : Fin 3 → Nat :=
  let c0_i32_54 : BitVec 32 := 0#32
  let v90 : Index := Scalar.indexCast c0_i32_54
  let c3_i32_55 : BitVec 32 := 3#32
  let v91 : Index := Scalar.indexCast c3_i32_55
  let c0_i32_4 : BitVec 32 := 0#32
  let c1_i32_5 : BitVec 32 := 1#32
  let arg6 : BitVec 32 := Scf.iv c0_i32_4 c1_i32_5 k0_t6
  let c16_i32_29 : BitVec 32 := 16#32
  let v10 : BitVec 32 := Scalar.muli arg6 c16_i32_29
  let v92 : Index := Scalar.indexCast v10
  ![0, 3, v92.toNat]
@[reducible] def k0_t7_loop : Scf.Loop 32 :=
  let c0_i32_10 : BitVec 32 := 0#32
  let c16_i32_11 : BitVec 32 := 16#32
  let v7 : BitVec 32 := Scalar.addi c0_i32_10 c16_i32_11
  let c1_i32_12 : BitVec 32 := 1#32
  ⟨c0_i32_10, v7, c1_i32_12⟩
def k0_off46 (k0_t7 : Fin k0_t7_loop.trips) : Fin 2 → Nat :=
  let c1_i32_30 : BitVec 32 := 1#32
  let v11 : Index := Scalar.indexCast c1_i32_30
  let c0_i32_10 : BitVec 32 := 0#32
  let c1_i32_12 : BitVec 32 := 1#32
  let arg6 : BitVec 32 := Scf.iv c0_i32_10 c1_i32_12 k0_t7
  let c16_i32_29 : BitVec 32 := 16#32
  let v10 : BitVec 32 := Scalar.muli arg6 c16_i32_29
  let v12 : Index := Scalar.indexCast v10
  ![1, v12.toNat]
def k0_off47 (k0_t7 : Fin k0_t7_loop.trips) : Fin 2 → Nat :=
  let c5_i32 : BitVec 32 := 5#32
  let v14 : Index := Scalar.indexCast c5_i32
  let c0_i32_10 : BitVec 32 := 0#32
  let c1_i32_12 : BitVec 32 := 1#32
  let arg6 : BitVec 32 := Scf.iv c0_i32_10 c1_i32_12 k0_t7
  let c16_i32_29 : BitVec 32 := 16#32
  let v10 : BitVec 32 := Scalar.muli arg6 c16_i32_29
  let v15 : Index := Scalar.indexCast v10
  ![5, v15.toNat]
def k0_off48 (k0_t7 : Fin k0_t7_loop.trips) : Fin 2 → Nat :=
  let c9_i32 : BitVec 32 := 9#32
  let v17 : Index := Scalar.indexCast c9_i32
  let c0_i32_10 : BitVec 32 := 0#32
  let c1_i32_12 : BitVec 32 := 1#32
  let arg6 : BitVec 32 := Scf.iv c0_i32_10 c1_i32_12 k0_t7
  let c16_i32_29 : BitVec 32 := 16#32
  let v10 : BitVec 32 := Scalar.muli arg6 c16_i32_29
  let v18 : Index := Scalar.indexCast v10
  ![9, v18.toNat]
def k0_off49 (k0_t7 : Fin k0_t7_loop.trips) : Fin 2 → Nat :=
  let c13_i32 : BitVec 32 := 13#32
  let v20 : Index := Scalar.indexCast c13_i32
  let c0_i32_10 : BitVec 32 := 0#32
  let c1_i32_12 : BitVec 32 := 1#32
  let arg6 : BitVec 32 := Scf.iv c0_i32_10 c1_i32_12 k0_t7
  let c16_i32_29 : BitVec 32 := 16#32
  let v10 : BitVec 32 := Scalar.muli arg6 c16_i32_29
  let v21 : Index := Scalar.indexCast v10
  ![13, v21.toNat]
def k0_off50 (k0_t7 : Fin k0_t7_loop.trips) : Fin 3 → Nat :=
  let c1_i32_47 : BitVec 32 := 1#32
  let v78 : Index := Scalar.indexCast c1_i32_47
  let c0_i32_48 : BitVec 32 := 0#32
  let v79 : Index := Scalar.indexCast c0_i32_48
  let c0_i32_10 : BitVec 32 := 0#32
  let c1_i32_12 : BitVec 32 := 1#32
  let arg6 : BitVec 32 := Scf.iv c0_i32_10 c1_i32_12 k0_t7
  let c16_i32_29 : BitVec 32 := 16#32
  let v10 : BitVec 32 := Scalar.muli arg6 c16_i32_29
  let v80 : Index := Scalar.indexCast v10
  ![1, 0, v80.toNat]
def k0_off51 (k0_t7 : Fin k0_t7_loop.trips) : Fin 3 → Nat :=
  let c1_i32_49 : BitVec 32 := 1#32
  let v82 : Index := Scalar.indexCast c1_i32_49
  let c1_i32_50 : BitVec 32 := 1#32
  let v83 : Index := Scalar.indexCast c1_i32_50
  let c0_i32_10 : BitVec 32 := 0#32
  let c1_i32_12 : BitVec 32 := 1#32
  let arg6 : BitVec 32 := Scf.iv c0_i32_10 c1_i32_12 k0_t7
  let c16_i32_29 : BitVec 32 := 16#32
  let v10 : BitVec 32 := Scalar.muli arg6 c16_i32_29
  let v84 : Index := Scalar.indexCast v10
  ![1, 1, v84.toNat]
def k0_off52 (k0_t7 : Fin k0_t7_loop.trips) : Fin 3 → Nat :=
  let c1_i32_51 : BitVec 32 := 1#32
  let v86 : Index := Scalar.indexCast c1_i32_51
  let c2_i32_52 : BitVec 32 := 2#32
  let v87 : Index := Scalar.indexCast c2_i32_52
  let c0_i32_10 : BitVec 32 := 0#32
  let c1_i32_12 : BitVec 32 := 1#32
  let arg6 : BitVec 32 := Scf.iv c0_i32_10 c1_i32_12 k0_t7
  let c16_i32_29 : BitVec 32 := 16#32
  let v10 : BitVec 32 := Scalar.muli arg6 c16_i32_29
  let v88 : Index := Scalar.indexCast v10
  ![1, 2, v88.toNat]
def k0_off53 (k0_t7 : Fin k0_t7_loop.trips) : Fin 3 → Nat :=
  let c1_i32_53 : BitVec 32 := 1#32
  let v90 : Index := Scalar.indexCast c1_i32_53
  let c3_i32_54 : BitVec 32 := 3#32
  let v91 : Index := Scalar.indexCast c3_i32_54
  let c0_i32_10 : BitVec 32 := 0#32
  let c1_i32_12 : BitVec 32 := 1#32
  let arg6 : BitVec 32 := Scf.iv c0_i32_10 c1_i32_12 k0_t7
  let c16_i32_29 : BitVec 32 := 16#32
  let v10 : BitVec 32 := Scalar.muli arg6 c16_i32_29
  let v92 : Index := Scalar.indexCast v10
  ![1, 3, v92.toNat]
@[reducible] def k0_t8_loop : Scf.Loop 32 :=
  let c0_i32_17 : BitVec 32 := 0#32
  let c16_i32_18 : BitVec 32 := 16#32
  let v8 : BitVec 32 := Scalar.addi c0_i32_17 c16_i32_18
  let c1_i32_19 : BitVec 32 := 1#32
  ⟨c0_i32_17, v8, c1_i32_19⟩
def k0_off54 (k0_t8 : Fin k0_t8_loop.trips) : Fin 2 → Nat :=
  let c2_i32_30 : BitVec 32 := 2#32
  let v11 : Index := Scalar.indexCast c2_i32_30
  let c0_i32_17 : BitVec 32 := 0#32
  let c1_i32_19 : BitVec 32 := 1#32
  let arg6 : BitVec 32 := Scf.iv c0_i32_17 c1_i32_19 k0_t8
  let c16_i32_29 : BitVec 32 := 16#32
  let v10 : BitVec 32 := Scalar.muli arg6 c16_i32_29
  let v12 : Index := Scalar.indexCast v10
  ![2, v12.toNat]
def k0_off55 (k0_t8 : Fin k0_t8_loop.trips) : Fin 2 → Nat :=
  let c6_i32 : BitVec 32 := 6#32
  let v14 : Index := Scalar.indexCast c6_i32
  let c0_i32_17 : BitVec 32 := 0#32
  let c1_i32_19 : BitVec 32 := 1#32
  let arg6 : BitVec 32 := Scf.iv c0_i32_17 c1_i32_19 k0_t8
  let c16_i32_29 : BitVec 32 := 16#32
  let v10 : BitVec 32 := Scalar.muli arg6 c16_i32_29
  let v15 : Index := Scalar.indexCast v10
  ![6, v15.toNat]
def k0_off56 (k0_t8 : Fin k0_t8_loop.trips) : Fin 2 → Nat :=
  let c10_i32 : BitVec 32 := 10#32
  let v17 : Index := Scalar.indexCast c10_i32
  let c0_i32_17 : BitVec 32 := 0#32
  let c1_i32_19 : BitVec 32 := 1#32
  let arg6 : BitVec 32 := Scf.iv c0_i32_17 c1_i32_19 k0_t8
  let c16_i32_29 : BitVec 32 := 16#32
  let v10 : BitVec 32 := Scalar.muli arg6 c16_i32_29
  let v18 : Index := Scalar.indexCast v10
  ![10, v18.toNat]
def k0_off57 (k0_t8 : Fin k0_t8_loop.trips) : Fin 2 → Nat :=
  let c14_i32 : BitVec 32 := 14#32
  let v20 : Index := Scalar.indexCast c14_i32
  let c0_i32_17 : BitVec 32 := 0#32
  let c1_i32_19 : BitVec 32 := 1#32
  let arg6 : BitVec 32 := Scf.iv c0_i32_17 c1_i32_19 k0_t8
  let c16_i32_29 : BitVec 32 := 16#32
  let v10 : BitVec 32 := Scalar.muli arg6 c16_i32_29
  let v21 : Index := Scalar.indexCast v10
  ![14, v21.toNat]
def k0_off58 (k0_t8 : Fin k0_t8_loop.trips) : Fin 3 → Nat :=
  let c2_i32_47 : BitVec 32 := 2#32
  let v78 : Index := Scalar.indexCast c2_i32_47
  let c0_i32_48 : BitVec 32 := 0#32
  let v79 : Index := Scalar.indexCast c0_i32_48
  let c0_i32_17 : BitVec 32 := 0#32
  let c1_i32_19 : BitVec 32 := 1#32
  let arg6 : BitVec 32 := Scf.iv c0_i32_17 c1_i32_19 k0_t8
  let c16_i32_29 : BitVec 32 := 16#32
  let v10 : BitVec 32 := Scalar.muli arg6 c16_i32_29
  let v80 : Index := Scalar.indexCast v10
  ![2, 0, v80.toNat]
def k0_off59 (k0_t8 : Fin k0_t8_loop.trips) : Fin 3 → Nat :=
  let c2_i32_49 : BitVec 32 := 2#32
  let v82 : Index := Scalar.indexCast c2_i32_49
  let c1_i32_50 : BitVec 32 := 1#32
  let v83 : Index := Scalar.indexCast c1_i32_50
  let c0_i32_17 : BitVec 32 := 0#32
  let c1_i32_19 : BitVec 32 := 1#32
  let arg6 : BitVec 32 := Scf.iv c0_i32_17 c1_i32_19 k0_t8
  let c16_i32_29 : BitVec 32 := 16#32
  let v10 : BitVec 32 := Scalar.muli arg6 c16_i32_29
  let v84 : Index := Scalar.indexCast v10
  ![2, 1, v84.toNat]
def k0_off60 (k0_t8 : Fin k0_t8_loop.trips) : Fin 3 → Nat :=
  let c2_i32_51 : BitVec 32 := 2#32
  let v86 : Index := Scalar.indexCast c2_i32_51
  let c2_i32_52 : BitVec 32 := 2#32
  let v87 : Index := Scalar.indexCast c2_i32_52
  let c0_i32_17 : BitVec 32 := 0#32
  let c1_i32_19 : BitVec 32 := 1#32
  let arg6 : BitVec 32 := Scf.iv c0_i32_17 c1_i32_19 k0_t8
  let c16_i32_29 : BitVec 32 := 16#32
  let v10 : BitVec 32 := Scalar.muli arg6 c16_i32_29
  let v88 : Index := Scalar.indexCast v10
  ![2, 2, v88.toNat]
def k0_off61 (k0_t8 : Fin k0_t8_loop.trips) : Fin 3 → Nat :=
  let c2_i32_53 : BitVec 32 := 2#32
  let v90 : Index := Scalar.indexCast c2_i32_53
  let c3_i32_54 : BitVec 32 := 3#32
  let v91 : Index := Scalar.indexCast c3_i32_54
  let c0_i32_17 : BitVec 32 := 0#32
  let c1_i32_19 : BitVec 32 := 1#32
  let arg6 : BitVec 32 := Scf.iv c0_i32_17 c1_i32_19 k0_t8
  let c16_i32_29 : BitVec 32 := 16#32
  let v10 : BitVec 32 := Scalar.muli arg6 c16_i32_29
  let v92 : Index := Scalar.indexCast v10
  ![2, 3, v92.toNat]
@[reducible] def k0_t9_loop : Scf.Loop 32 :=
  let c0_i32_24 : BitVec 32 := 0#32
  let c16_i32_25 : BitVec 32 := 16#32
  let v9 : BitVec 32 := Scalar.addi c0_i32_24 c16_i32_25
  let c1_i32_26 : BitVec 32 := 1#32
  ⟨c0_i32_24, v9, c1_i32_26⟩
def k0_off62 (k0_t9 : Fin k0_t9_loop.trips) : Fin 2 → Nat :=
  let c3_i32_30 : BitVec 32 := 3#32
  let v11 : Index := Scalar.indexCast c3_i32_30
  let c0_i32_24 : BitVec 32 := 0#32
  let c1_i32_26 : BitVec 32 := 1#32
  let arg6 : BitVec 32 := Scf.iv c0_i32_24 c1_i32_26 k0_t9
  let c16_i32_29 : BitVec 32 := 16#32
  let v10 : BitVec 32 := Scalar.muli arg6 c16_i32_29
  let v12 : Index := Scalar.indexCast v10
  ![3, v12.toNat]
def k0_off63 (k0_t9 : Fin k0_t9_loop.trips) : Fin 2 → Nat :=
  let c7_i32 : BitVec 32 := 7#32
  let v14 : Index := Scalar.indexCast c7_i32
  let c0_i32_24 : BitVec 32 := 0#32
  let c1_i32_26 : BitVec 32 := 1#32
  let arg6 : BitVec 32 := Scf.iv c0_i32_24 c1_i32_26 k0_t9
  let c16_i32_29 : BitVec 32 := 16#32
  let v10 : BitVec 32 := Scalar.muli arg6 c16_i32_29
  let v15 : Index := Scalar.indexCast v10
  ![7, v15.toNat]
def k0_off64 (k0_t9 : Fin k0_t9_loop.trips) : Fin 2 → Nat :=
  let c11_i32 : BitVec 32 := 11#32
  let v17 : Index := Scalar.indexCast c11_i32
  let c0_i32_24 : BitVec 32 := 0#32
  let c1_i32_26 : BitVec 32 := 1#32
  let arg6 : BitVec 32 := Scf.iv c0_i32_24 c1_i32_26 k0_t9
  let c16_i32_29 : BitVec 32 := 16#32
  let v10 : BitVec 32 := Scalar.muli arg6 c16_i32_29
  let v18 : Index := Scalar.indexCast v10
  ![11, v18.toNat]
def k0_off65 (k0_t9 : Fin k0_t9_loop.trips) : Fin 2 → Nat :=
  let c15_i32 : BitVec 32 := 15#32
  let v20 : Index := Scalar.indexCast c15_i32
  let c0_i32_24 : BitVec 32 := 0#32
  let c1_i32_26 : BitVec 32 := 1#32
  let arg6 : BitVec 32 := Scf.iv c0_i32_24 c1_i32_26 k0_t9
  let c16_i32_29 : BitVec 32 := 16#32
  let v10 : BitVec 32 := Scalar.muli arg6 c16_i32_29
  let v21 : Index := Scalar.indexCast v10
  ![15, v21.toNat]
def k0_off66 (k0_t9 : Fin k0_t9_loop.trips) : Fin 3 → Nat :=
  let c3_i32_47 : BitVec 32 := 3#32
  let v78 : Index := Scalar.indexCast c3_i32_47
  let c0_i32_48 : BitVec 32 := 0#32
  let v79 : Index := Scalar.indexCast c0_i32_48
  let c0_i32_24 : BitVec 32 := 0#32
  let c1_i32_26 : BitVec 32 := 1#32
  let arg6 : BitVec 32 := Scf.iv c0_i32_24 c1_i32_26 k0_t9
  let c16_i32_29 : BitVec 32 := 16#32
  let v10 : BitVec 32 := Scalar.muli arg6 c16_i32_29
  let v80 : Index := Scalar.indexCast v10
  ![3, 0, v80.toNat]
def k0_off67 (k0_t9 : Fin k0_t9_loop.trips) : Fin 3 → Nat :=
  let c3_i32_49 : BitVec 32 := 3#32
  let v82 : Index := Scalar.indexCast c3_i32_49
  let c1_i32_50 : BitVec 32 := 1#32
  let v83 : Index := Scalar.indexCast c1_i32_50
  let c0_i32_24 : BitVec 32 := 0#32
  let c1_i32_26 : BitVec 32 := 1#32
  let arg6 : BitVec 32 := Scf.iv c0_i32_24 c1_i32_26 k0_t9
  let c16_i32_29 : BitVec 32 := 16#32
  let v10 : BitVec 32 := Scalar.muli arg6 c16_i32_29
  let v84 : Index := Scalar.indexCast v10
  ![3, 1, v84.toNat]
def k0_off68 (k0_t9 : Fin k0_t9_loop.trips) : Fin 3 → Nat :=
  let c3_i32_51 : BitVec 32 := 3#32
  let v86 : Index := Scalar.indexCast c3_i32_51
  let c2_i32_52 : BitVec 32 := 2#32
  let v87 : Index := Scalar.indexCast c2_i32_52
  let c0_i32_24 : BitVec 32 := 0#32
  let c1_i32_26 : BitVec 32 := 1#32
  let arg6 : BitVec 32 := Scf.iv c0_i32_24 c1_i32_26 k0_t9
  let c16_i32_29 : BitVec 32 := 16#32
  let v10 : BitVec 32 := Scalar.muli arg6 c16_i32_29
  let v88 : Index := Scalar.indexCast v10
  ![3, 2, v88.toNat]
def k0_off69 (k0_t9 : Fin k0_t9_loop.trips) : Fin 3 → Nat :=
  let c3_i32_53 : BitVec 32 := 3#32
  let v90 : Index := Scalar.indexCast c3_i32_53
  let c3_i32_54 : BitVec 32 := 3#32
  let v91 : Index := Scalar.indexCast c3_i32_54
  let c0_i32_24 : BitVec 32 := 0#32
  let c1_i32_26 : BitVec 32 := 1#32
  let arg6 : BitVec 32 := Scf.iv c0_i32_24 c1_i32_26 k0_t9
  let c16_i32_29 : BitVec 32 := 16#32
  let v10 : BitVec 32 := Scalar.muli arg6 c16_i32_29
  let v92 : Index := Scalar.indexCast v10
  ![3, 3, v92.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ColumnsIdeal.lean ====
abbrev S4x120000x4 : Shape := ⟨3, ![4, 120000, 4]⟩
abbrev S4x120000x1 : Shape := ⟨3, ![4, 120000, 1]⟩
abbrev S4x120000 : Shape := ⟨2, ![4, 120000]⟩

abbrev nBuf : Space → Nat
  | .hbm => 13
  | .vmem => 0
  | .smem => 0
  | _ => 0

abbrev bufTy : (tb : Table) → Fin (tcTables nBuf tb) → BufTy
  | .hbm, ⟨0, _⟩ => ⟨S4x120000x4, .f32⟩
  | .hbm, ⟨1, _⟩ => ⟨S4x120000x1, .f32⟩
  | .hbm, ⟨2, _⟩ => ⟨S4x120000, .f32⟩
  | .hbm, ⟨3, _⟩ => ⟨S4x120000, .f32⟩
  | .hbm, ⟨4, _⟩ => ⟨S4x120000x1, .f32⟩
  | .hbm, ⟨5, _⟩ => ⟨S4x120000, .f32⟩
  | .hbm, ⟨6, _⟩ => ⟨S4x120000, .f32⟩
  | .hbm, ⟨7, _⟩ => ⟨S4x120000, .f32⟩
  | .hbm, ⟨8, _⟩ => ⟨S4x120000, .f32⟩
  | .hbm, ⟨9, _⟩ => ⟨S4x120000x1, .f32⟩
  | .hbm, ⟨10, _⟩ => ⟨S4x120000, .f32⟩
  | .hbm, ⟨11, _⟩ => ⟨S4x120000x1, .f32⟩
  | .hbm, ⟨12, _⟩ => ⟨S4x120000, .f32⟩
  | _, _ => ⟨S4x120000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== Proof.Table.lean ====
/-
  What the kernel computes, said once and for any number of points.

  The points of the four clouds arrive as a table of sixteen rows: rows `4r … 4r + 3` hold feature `r` (x, y, z,
  intensity) of clouds 0 to 3, and each column is one point. Every result of the kernel treats a point on its own: it
  is a function of that point's four features, written at the point's place in a table with one row per cloud (`flat`)
  or with a few rows per cloud (`stacked`). The functions themselves are the definitions of the first half.
-/
module

public import Idealize.ShloMosaic.PureOps
public import Idealize.ShloMosaic.Lib.Pipeline.Value
public import Idealize.ShloMosaic.Lib.ValueIdxCore

@[expose] public section

noncomputable section

namespace Cert.Points

open Idealize.ShloMosaic Idealize.ShloMosaic.ValueIdx

variable {F : FTy → Type} [FloatOps F]

/-! ## One point -/

/-- The four features of a point: x, y, z, intensity. -/
abbrev Pt (F : FTy → Type) : Type := Fin 4 → F .f32

/-- The distance of a point from the vertical axis. -/
def rho (p : Pt F) : F .f32 :=
  FloatOps.sqrt (FloatOps.addf (FloatOps.mulf (p 0) (p 0)) (FloatOps.mulf (p 1) (p 1)))

/-- The angle of a point around the vertical axis, in degrees. -/
def phi (p : Pt F) : F .f32 :=
  FloatOps.mulf (FloatOps.divf (FloatOps.atan2 (p 1) (p 0)) (FloatOps.ofBits .f32 0x40490FDB#32)) (FloatOps.ofBits .f32 0x43340000#32)

/-- The height of a point. -/
def height (p : Pt F) : F .f32 := p 2

/-- One axis of a voxel grid: where it starts, how long it is and how many cells it is cut into, each as the word of
    the number. -/
structure Axis where
  start : BitVec 32
  length : BitVec 32
  cells : BitVec 32

/-- The place of a coordinate along an axis, counted in cells. -/
def Axis.place (a : Axis) (x : F .f32) : F .f32 :=
  FloatOps.mulf (FloatOps.divf (FloatOps.subf x (FloatOps.ofBits .f32 a.start)) (FloatOps.ofBits .f32 a.length)) (FloatOps.ofBits .f32 a.cells)

/-- The cell a coordinate falls in, -/
def Axis.cell (a : Axis) (x : F .f32) : BitVec 32 := FloatOps.fptosi 32 (a.place x)

/-- and how far into it. -/
def Axis.offset (a : Axis) (x : F .f32) : F .f32 := FloatOps.subf (a.place x) (FloatOps.sitofp .f32 (a.cell x))

/-- A cell number brought into `0 … top`. -/
def bounded (top v : BitVec 32) : BitVec 32 := IntOp.minsi top (IntOp.maxsi 0#32 v)

/-- A voxel grid over (distance, angle, height): its axes, the last cell the angle may fall in, and the number of
    cells along the height (the stride of the flat numbering). -/
structure Grid where
  r : Axis
  a : Axis
  h : Axis
  top : BitVec 32
  width : BitVec 32
  depth : BitVec 32

/-- The cell numbers of a point, -/
def Grid.cr (g : Grid) (p : Pt F) : BitVec 32 := g.r.cell (rho p)
def Grid.ca (g : Grid) (p : Pt F) : BitVec 32 := bounded g.top (g.a.cell (phi p))
def Grid.ch (g : Grid) (p : Pt F) : BitVec 32 := g.h.cell (height p)

/-- and its offsets inside the cells. -/
def Grid.fr (g : Grid) (p : Pt F) : F .f32 := g.r.offset (rho p)
def Grid.fa (g : Grid) (p : Pt F) : F .f32 := g.a.offset (phi p)
def Grid.fh (g : Grid) (p : Pt F) : F .f32 := g.h.offset (height p)

/-- The flat number of the point's cell in the plane of distance and angle, -/
def Grid.plane (g : Grid) (p : Pt F) : BitVec 32 := IntOp.addi (IntOp.muli (g.cr p) g.width) (g.ca p)

/-- and in the whole grid. -/
def Grid.solid (g : Grid) (p : Pt F) : BitVec 32 :=
  IntOp.addi (IntOp.addi (IntOp.muli (g.cr p) (IntOp.muli g.width g.depth)) (IntOp.muli (g.ca p) g.depth)) (g.ch p)

/-- The fine grid: 200 cells to 50 along the distance, 720 to the full turn, 80 to the height of 8. -/
def fine : Grid where
  r := ⟨0x00000000#32, 0x42480000#32, 0x43480000#32⟩
  a := ⟨0xC3340000#32, 0x43B40000#32, 0x44340000#32⟩
  h := ⟨0xC0A00000#32, 0x41000000#32, 0x42A00000#32⟩
  top := 199#32
  width := 200#32
  depth := 80#32

/-- The coarse grid: half as many cells along each axis. -/
def coarse : Grid where
  r := ⟨0x00000000#32, 0x42480000#32, 0x42C80000#32⟩
  a := ⟨0xC3340000#32, 0x43B40000#32, 0x43B40000#32⟩
  h := ⟨0xC0A00000#32, 0x41000000#32, 0x42200000#32⟩
  top := 99#32
  width := 100#32
  depth := 40#32

/-- The rows of the stacked results. -/
def polarRows : Fin 4 → Pt F → F .f32 := ![rho, phi, height, fun p => p 3]
def Grid.planeRows (g : Grid) : Fin 2 → Pt F → BitVec 32 := ![g.cr, g.ca]
def Grid.solidRows (g : Grid) : Fin 3 → Pt F → BitVec 32 := ![g.cr, g.ca, g.ch]
def Grid.planeOffsets (g : Grid) : Fin 2 → Pt F → F .f32 := ![g.fr, g.fa]
def Grid.solidOffsets (g : Grid) : Fin 2 → Pt F → F .f32 := ![g.fr, g.fh]

/-! ## Tables of points -/

/-- The point of cloud `b` in column `j` of a table of sixteen rows. -/
def column {n : Nat} (X : (⟨2, ![16, n]⟩ : Shape).Idx → F .f32) (b : Fin 4) (j : Fin n) : Pt F :=
  fun r => X (ix2 (⟨4 * r.val + b.val, by omega⟩ : Fin 16) j)

/-- A function of a point over a table: one row per cloud; -/
def flat {n : Nat} {E : Type} (g : Pt F → E) (X : (⟨2, ![16, n]⟩ : Shape).Idx → F .f32) :
    (⟨2, ![4, n]⟩ : Shape).Idx → E :=
  fun i => g (column X (i 0) (i 1))

/-- several functions of a point over a table: the rows of a cloud stand together. -/
def stacked {n k : Nat} {E : Type} (g : Fin k → Pt F → E) (X : (⟨2, ![16, n]⟩ : Shape).Idx → F .f32) :
    (⟨3, ![4, k, n]⟩ : Shape).Idx → E :=
  fun i => g (i 1) (column X (i 0) (i 2))

/-- A vector over clouds and points, given a unit axis in the middle. -/
theorem unitMiddle_apply {n : Nat} {E : Type} (v : (⟨2, ![4, n]⟩ : Shape).Idx → E)
    (h : (⟨2, ![4, n]⟩ : Shape).ShapeCasts ⟨3, ![4, 1, n]⟩) (x : (⟨3, ![4, 1, n]⟩ : Shape).Idx) :
    shapeCast ⟨3, ![4, 1, n]⟩ v h x = v (ix2 (x 0 : Fin 4) (x 2 : Fin n)) :=
  shapeCast_apply v h x _ (by
    rw [Shape.rowMajor_val_two, Shape.rowMajor_val_three]
    have h1 : (x 1).val < 1 := (x 1).isLt
    show (x 0).val * n + (x 2).val = ((x 0).val * 1 + (x 1).val) * n + (x 2).val
    rw [show (x 1).val = 0 by omega, Nat.mul_one, Nat.add_zero])

/-! ## The clouds as they are given and handed back -/

/-- The point `j` of cloud `b`, its features along the last axis. -/
def point {n : Nat} (A : (⟨3, ![4, n, 4]⟩ : Shape).Idx → F .f32) (b : Fin 4) (j : Fin n) : Pt F := fun r => A (ix3 b j r)

/-- A function of a point over the clouds; -/
def perPoint {n : Nat} {E : Type} (g : Pt F → E) (A : (⟨3, ![4, n, 4]⟩ : Shape).Idx → F .f32) :
    (⟨2, ![4, n]⟩ : Shape).Idx → E :=
  fun i => g (point A (i 0) (i 1))

/-- several functions of a point, side by side along the last axis. -/
def perRow {n k : Nat} {E : Type} (g : Fin k → Pt F → E) (A : (⟨3, ![4, n, 4]⟩ : Shape).Idx → F .f32) :
    (⟨3, ![4, n, k]⟩ : Shape).Idx → E :=
  fun i => g (i 2) (point A (i 0) (i 1))

/-- Stacked results with their last two axes exchanged stand side by side along the last axis. -/
theorem transpose_stacked {n k : Nat} {E : Type} (g : Fin k → Pt F → E) (X : (⟨2, ![16, n]⟩ : Shape).Idx → F .f32)
    (A : (⟨3, ![4, n, 4]⟩ : Shape).Idx → F .f32) (hX : ∀ b j, column X b j = point A b j)
    (h : (⟨3, ![4, k, n]⟩ : Shape).Transposes [0, 2, 1] ⟨3, ![4, n, k]⟩) :
    transpose ⟨3, ![4, n, k]⟩ [0, 2, 1] (stacked g X) h = perRow g A := by
  funext i
  rw [transpose_apply [0, 2, 1] (stacked g X) h i (ix3 (i 0 : Fin 4) (i 2 : Fin k) (i 1 : Fin n)) (by
    intro a; fin_cases a <;> rfl)]
  exact congrArg (g (i 2)) (hX (i 0) (i 1))

theorem flat_eq {n : Nat} {E : Type} (g : Pt F → E) (X : (⟨2, ![16, n]⟩ : Shape).Idx → F .f32)
    (A : (⟨3, ![4, n, 4]⟩ : Shape).Idx → F .f32) (hX : ∀ b j, column X b j = point A b j) : flat g X = perPoint g A :=
  funext fun i => congrArg g (hX (i 0) (i 1))

/-- The clouds with their features brought to the front and merged with the cloud are the table of sixteen rows. -/
theorem column_merged {n : Nat} (A : (⟨3, ![4, n, 4]⟩ : Shape).Idx → F .f32)
    (ht : (⟨3, ![4, n, 4]⟩ : Shape).Transposes [2, 0, 1] ⟨3, ![4, 4, n]⟩)
    (hs : (⟨3, ![4, 4, n]⟩ : Shape).ShapeCasts ⟨2, ![16, n]⟩) (b : Fin 4) (j : Fin n) :
    column (shapeCast ⟨2, ![16, n]⟩ (transpose ⟨3, ![4, 4, n]⟩ [2, 0, 1] A ht) hs) b j = point A b j := by
  funext r
  unfold column point
  rw [shapeCast_apply _ hs _ (ix3 (r : Fin 4) (b : Fin 4) (j : Fin n)) (by
    rw [Shape.rowMajor_val_two, Shape.rowMajor_val_three]
    show (r.val * 4 + b.val) * n + j.val = (4 * r.val + b.val) * n + j.val
    rw [Nat.mul_comm r.val 4])]
  exact transpose_apply [2, 0, 1] A ht _ _ (by intro a; fin_cases a <;> rfl)

end Cert.Points

end
-- ==== Proof.Body.lean ====
/-
  The body of the kernel on one block of 16384 points.

  The body loads the four features of the four clouds from its input block, works on each point alone and stores
  thirteen blocks. `body_triple`: whatever the output blocks held before, each ends as the table of `Table.lean` over
  the input block. The stores into a block tile it, so its old contents never show.
-/
module

public import proofs.«01_k».proof.Proof.Table
public import proofs.«01_k».proof.Proof.Gen.KernelIdeal.Launch
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Points

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What is loaded -/

/-- The four rows of feature `r` of a block, as they are loaded. -/
abbrev rowsX : Rect S16x16384 := Rect.unit (s := S16x16384) ![0, 0] S4x16384.size inb_S16x16384_S4x16384_0_0
abbrev rowsY : Rect S16x16384 := Rect.unit (s := S16x16384) ![4, 0] S4x16384.size inb_S16x16384_S4x16384_4_0
abbrev rowsZ : Rect S16x16384 := Rect.unit (s := S16x16384) ![8, 0] S4x16384.size inb_S16x16384_S4x16384_8_0
abbrev rowsW : Rect S16x16384 := Rect.unit (s := S16x16384) ![12, 0] S4x16384.size inb_S16x16384_S4x16384_12_0

/-- Four rows of a block, from row `4r` on, are feature `r` of its points. -/
theorem load_rows (X : Vec F S16x16384 .f32) (r : Fin 4) (off : Fin 2 → Nat) (hoff : off = ![4 * r.val, 0])
    (inb : ∀ a, off a + S4x16384.size a ≤ S16x16384.size a) :
    View.ld (Val := Elt F) X (Rect.unit (s := S16x16384) off S4x16384.size inb) = flat (fun p : Pt F => p r) X := by
  subst hoff
  funext i
  refine congrArg X (Shape.idx_ext₂ ?_ ?_)
  · show 4 * r.val + 1 * (i 0).val = 4 * r.val + (i 0).val
    omega
  · show 0 + 1 * (i 1).val = (i 1).val
    omega

/-! ## The values the stores share -/

section Values

variable (X : Vec F S16x16384 .f32)

theorem loadX : View.ld (Val := Elt F) X rowsX = flat (fun p : Pt F => p 0) X := load_rows X 0 _ rfl _
theorem loadY : View.ld (Val := Elt F) X rowsY = flat (fun p : Pt F => p 1) X := load_rows X 1 _ rfl _
theorem loadZ : View.ld (Val := Elt F) X rowsZ = flat (fun p : Pt F => p 2) X := load_rows X 2 _ rfl _
theorem loadW : View.ld (Val := Elt F) X rowsW = flat (fun p : Pt F => p 3) X := load_rows X 3 _ rfl _

theorem rho_block : k0_pay5 (View.ld (Val := Elt F) X rowsX) (View.ld (Val := Elt F) X rowsY) = flat (rho (F := F)) X := by
  rw [loadX, loadY]
  unfold k0_pay5 k0_pay2 k0_pay3
  rw [shapeCast_self, shapeCast_self]
  rfl

theorem phi_block : k0_pay6 (View.ld (Val := Elt F) X rowsX) (View.ld (Val := Elt F) X rowsY) = flat (phi (F := F)) X := by
  rw [loadX, loadY]
  unfold k0_pay6 k0_pay2 k0_pay3
  rw [shapeCast_self, shapeCast_self]
  rfl

theorem height_block : k0_pay4 (View.ld (Val := Elt F) X rowsZ) = flat (height (F := F)) X := by
  rw [loadZ]
  unfold k0_pay4
  rw [shapeCast_self]
  rfl

theorem intensity_block : shapeCast S4x16384 (View.ld (Val := Elt F) X rowsW) shapeCasts_S4x16384_S4x16384 = flat (fun p : Pt F => p 3) X := by
  rw [loadW]; exact shapeCast_self _ _

/-- The cells and offsets of the fine grid, -/
theorem fine_cr : k0_pay13 (k0_pay11 (View.ld (Val := Elt F) X rowsX) (View.ld (Val := Elt F) X rowsY)) (Scalar.ofBits .f32 0x42480000#32)
    = flat (fine.cr (F := F)) X := by
  unfold k0_pay13 k0_pay12 k0_pay11; rw [rho_block]; rfl
theorem fine_fr : k0_pay14 (k0_pay11 (View.ld (Val := Elt F) X rowsX) (View.ld (Val := Elt F) X rowsY)) (Scalar.ofBits .f32 0x42480000#32)
    = flat (fine.fr (F := F)) X := by
  unfold k0_pay14 k0_pay13 k0_pay12 k0_pay11; rw [rho_block]; rfl
theorem fine_ca : k0_pay21 (k0_pay6 (View.ld (Val := Elt F) X rowsX) (View.ld (Val := Elt F) X rowsY)) = flat (fine.ca (F := F)) X := by
  rw [phi_block]; rfl
theorem fine_fa : k0_pay17 (k0_pay6 (View.ld (Val := Elt F) X rowsX) (View.ld (Val := Elt F) X rowsY)) = flat (fine.fa (F := F)) X := by
  rw [phi_block]; rfl
theorem fine_ch : k0_pay19 (k0_pay4 (View.ld (Val := Elt F) X rowsZ)) = flat (fine.ch (F := F)) X := by
  rw [height_block]; rfl
theorem fine_fh : k0_pay20 (k0_pay4 (View.ld (Val := Elt F) X rowsZ)) = flat (fine.fh (F := F)) X := by
  rw [height_block]; rfl

/-- and of the coarse one. -/
theorem coarse_cr : k0_pay34 (k0_pay5 (View.ld (Val := Elt F) X rowsX) (View.ld (Val := Elt F) X rowsY)) = flat (coarse.cr (F := F)) X := by
  rw [rho_block]; rfl
theorem coarse_fr : k0_pay35 (k0_pay5 (View.ld (Val := Elt F) X rowsX) (View.ld (Val := Elt F) X rowsY)) = flat (coarse.fr (F := F)) X := by
  rw [rho_block]; rfl
theorem coarse_ca : k0_pay42 (k0_pay6 (View.ld (Val := Elt F) X rowsX) (View.ld (Val := Elt F) X rowsY)) = flat (coarse.ca (F := F)) X := by
  rw [phi_block]; rfl
theorem coarse_fa : k0_pay38 (k0_pay6 (View.ld (Val := Elt F) X rowsX) (View.ld (Val := Elt F) X rowsY)) = flat (coarse.fa (F := F)) X := by
  rw [phi_block]; rfl
theorem coarse_ch : k0_pay40 (k0_pay4 (View.ld (Val := Elt F) X rowsZ)) = flat (coarse.ch (F := F)) X := by
  rw [height_block]; rfl
theorem coarse_fh : k0_pay41 (k0_pay4 (View.ld (Val := Elt F) X rowsZ)) = flat (coarse.fh (F := F)) X := by
  rw [height_block]; rfl

/-- The flat cell numbers, from the cells. -/
theorem fine_plane : k0_pay22 (k0_pay6 (View.ld (Val := Elt F) X rowsX) (View.ld (Val := Elt F) X rowsY))
    (k0_pay11 (View.ld (Val := Elt F) X rowsX) (View.ld (Val := Elt F) X rowsY)) (Scalar.ofBits .f32 0x42480000#32)
    = flat (fine.plane (F := F)) X := by
  unfold k0_pay22; rw [fine_cr, fine_ca]; rfl
theorem fine_solid : k0_pay23 (k0_pay4 (View.ld (Val := Elt F) X rowsZ)) (k0_pay6 (View.ld (Val := Elt F) X rowsX) (View.ld (Val := Elt F) X rowsY))
    (k0_pay11 (View.ld (Val := Elt F) X rowsX) (View.ld (Val := Elt F) X rowsY)) (Scalar.ofBits .f32 0x42480000#32)
    = flat (fine.solid (F := F)) X := by
  unfold k0_pay23; rw [fine_cr, fine_ca, fine_ch]; rfl
theorem coarse_plane : k0_pay43 (k0_pay5 (View.ld (Val := Elt F) X rowsX) (View.ld (Val := Elt F) X rowsY))
    (k0_pay6 (View.ld (Val := Elt F) X rowsX) (View.ld (Val := Elt F) X rowsY)) = flat (coarse.plane (F := F)) X := by
  unfold k0_pay43; rw [coarse_cr, coarse_ca]; rfl
theorem coarse_solid : k0_pay44 (k0_pay4 (View.ld (Val := Elt F) X rowsZ)) (k0_pay5 (View.ld (Val := Elt F) X rowsX) (View.ld (Val := Elt F) X rowsY))
    (k0_pay6 (View.ld (Val := Elt F) X rowsX) (View.ld (Val := Elt F) X rowsY)) = flat (coarse.solid (F := F)) X := by
  unfold k0_pay44; rw [coarse_cr, coarse_ca, coarse_ch]; rfl

end Values

/-! ## What is stored -/

section Stores

variable {κ : Kind} {sp : Space} {e : EltTy} (X : Vec F S16x16384 .f32)

/-- A view written piece by piece with the pieces of one function, which cover it, reads as that function. -/
theorem read_pieces {s : Shape} (v : View sig κ sp s e) (f : v.ty.Contents (Elt F)) (L : List (View.Piece (Elt F) s e))
    (G : s.Idx → Elt F e) (hcover : ∀ y, ∃ p ∈ L, y ∈ p.1.set) (hL : ∀ p ∈ L, ∀ x : p.1.shape.Idx, p.2 x = G (p.1.emb x)) :
    v.read (Elt F) (v.writes (Elt F) f L) = G :=
  (View.read_writes_eq_canon v f L hcover).trans (funext fun y => View.canon_apply_of_pieces G L hL y (hcover y))

/-- One row per cloud of a stacked block, stored with a unit axis, is a piece of it. -/
theorem stacked_piece {k : Nat} (g : Fin k → Pt F → Elt F e) (r : Fin k) (u : Vec F S4x16384 e) (hu : u = flat (g r) X)
    (off : Fin 3 → Nat) (hoff : off = ![0, r.val, 0]) (inb : ∀ a, off a + S4x1x16384.size a ≤ (⟨3, ![4, k, 16384]⟩ : Shape).size a)
    (x : S4x1x16384.Idx) :
    shapeCast S4x1x16384 u shapeCasts_S4x16384_S4x1x16384 x
      = stacked g X ((Rect.unit (s := (⟨3, ![4, k, 16384]⟩ : Shape)) off S4x1x16384.size inb).emb x) := by
  subst hoff hu
  rw [unitMiddle_apply]
  have h1 : (x 1).val < 1 := (x 1).isLt
  refine congrArg₂ (fun (q : Fin k) (p : Pt F) => g q p) (Fin.ext ?_) (congrArg₂ (column X) (Fin.ext ?_) (Fin.ext ?_))
  · show r.val = r.val + 1 * (x 1).val; omega
  · show (x 0).val = 0 + 1 * (x 0).val; omega
  · show (x 2).val = 0 + 1 * (x 2).val; omega

/-- A block of one row per cloud, stored whole. -/
theorem store_flat (v : View sig κ sp S4x16384 e) (f : v.ty.Contents (Elt F)) (g : Pt F → Elt F e) (u : Vec F S4x16384 e) (hu : u = flat g X) :
    v.read (Elt F) (v.writes (Elt F) f [⟨Rect.unit (s := S4x16384) ![0, 0] S4x16384.size inb_S4x16384_S4x16384_0_0, u⟩]) = flat g X := by
  have hz : (![0, 0] : Fin 2 → Nat) = fun _ => 0 := funext fun a => by fin_cases a <;> rfl
  subst hu
  refine (View.read_writes_eq_canon v f _ fun y => ?_).trans (View.canon_unit_zero hz _ _)
  refine View.cover_of_tiled (s := S4x16384) _ S4x16384.size ?_ y; rfl

/-- A block of two rows per cloud, stored row by row. -/
theorem store_two (v : View sig κ sp S4x2x16384 e) (f : v.ty.Contents (Elt F)) (g : Fin 2 → Pt F → Elt F e) (u₀ u₁ : Vec F S4x16384 e)
    (h₀ : u₀ = flat (g 0) X) (h₁ : u₁ = flat (g 1) X) :
    v.read (Elt F) (v.writes (Elt F) f [
      ⟨Rect.unit (s := S4x2x16384) ![0, 1, 0] S4x1x16384.size inb_S4x2x16384_S4x1x16384_0_1_0, shapeCast S4x1x16384 u₁ shapeCasts_S4x16384_S4x1x16384⟩,
      ⟨Rect.unit (s := S4x2x16384) ![0, 0, 0] S4x1x16384.size inb_S4x2x16384_S4x1x16384_0_0_0, shapeCast S4x1x16384 u₀ shapeCasts_S4x16384_S4x1x16384⟩])
      = stacked g X := by
  refine read_pieces v f _ _ (fun y => ?_) ?_
  · refine View.cover_of_tiled (s := S4x2x16384) _ S4x1x16384.size ?_ y; rfl
  · simp only [List.forall_mem_cons]
    exact ⟨stacked_piece X g 1 u₁ h₁ _ rfl _, stacked_piece X g 0 u₀ h₀ _ rfl _, by simp⟩

/-- A block of three rows per cloud. -/
theorem store_three (v : View sig κ sp S4x3x16384 e) (f : v.ty.Contents (Elt F)) (g : Fin 3 → Pt F → Elt F e) (u₀ u₁ u₂ : Vec F S4x16384 e)
    (h₀ : u₀ = flat (g 0) X) (h₁ : u₁ = flat (g 1) X) (h₂ : u₂ = flat (g 2) X) :
    v.read (Elt F) (v.writes (Elt F) f [
      ⟨Rect.unit (s := S4x3x16384) ![0, 2, 0] S4x1x16384.size inb_S4x3x16384_S4x1x16384_0_2_0, shapeCast S4x1x16384 u₂ shapeCasts_S4x16384_S4x1x16384⟩,
      ⟨Rect.unit (s := S4x3x16384) ![0, 1, 0] S4x1x16384.size inb_S4x3x16384_S4x1x16384_0_1_0, shapeCast S4x1x16384 u₁ shapeCasts_S4x16384_S4x1x16384⟩,
      ⟨Rect.unit (s := S4x3x16384) ![0, 0, 0] S4x1x16384.size inb_S4x3x16384_S4x1x16384_0_0_0, shapeCast S4x1x16384 u₀ shapeCasts_S4x16384_S4x1x16384⟩])
      = stacked g X := by
  refine read_pieces v f _ _ (fun y => ?_) ?_
  · refine View.cover_of_tiled (s := S4x3x16384) _ S4x1x16384.size ?_ y; rfl
  · simp only [List.forall_mem_cons]
    exact ⟨stacked_piece X g 2 u₂ h₂ _ rfl _, stacked_piece X g 1 u₁ h₁ _ rfl _, stacked_piece X g 0 u₀ h₀ _ rfl _, by simp⟩

/-- A block of four rows per cloud. -/
theorem store_four (v : View sig κ sp S4x4x16384 e) (f : v.ty.Contents (Elt F)) (g : Fin 4 → Pt F → Elt F e) (u₀ u₁ u₂ u₃ : Vec F S4x16384 e)
    (h₀ : u₀ = flat (g 0) X) (h₁ : u₁ = flat (g 1) X) (h₂ : u₂ = flat (g 2) X) (h₃ : u₃ = flat (g 3) X) :
    v.read (Elt F) (v.writes (Elt F) f [
      ⟨Rect.unit (s := S4x4x16384) ![0, 3, 0] S4x1x16384.size inb_S4x4x16384_S4x1x16384_0_3_0, shapeCast S4x1x16384 u₃ shapeCasts_S4x16384_S4x1x16384⟩,
      ⟨Rect.unit (s := S4x4x16384) ![0, 2, 0] S4x1x16384.size inb_S4x4x16384_S4x1x16384_0_2_0, shapeCast S4x1x16384 u₂ shapeCasts_S4x16384_S4x1x16384⟩,
      ⟨Rect.unit (s := S4x4x16384) ![0, 1, 0] S4x1x16384.size inb_S4x4x16384_S4x1x16384_0_1_0, shapeCast S4x1x16384 u₁ shapeCasts_S4x16384_S4x1x16384⟩,
      ⟨Rect.unit (s := S4x4x16384) ![0, 0, 0] S4x1x16384.size inb_S4x4x16384_S4x1x16384_0_0_0, shapeCast S4x1x16384 u₀ shapeCasts_S4x16384_S4x1x16384⟩])
      = stacked g X := by
  refine read_pieces v f _ _ (fun y => ?_) ?_
  · refine View.cover_of_tiled (s := S4x4x16384) _ S4x1x16384.size ?_ y; rfl
  · simp only [List.forall_mem_cons]
    exact ⟨stacked_piece X g 3 u₃ h₃ _ rfl _, stacked_piece X g 2 u₂ h₂ _ rfl _, stacked_piece X g 1 u₁ h₁ _ rfl _,
      stacked_piece X g 0 u₀ h₀ _ rfl _, by simp⟩

end Stores

/-! ## The triple -/

set_option maxHeartbeats 1000000 in
/-- The body, run on an input block that reads `X` and output blocks that hold anything, leaves the input block as it
    was and each output block at its table over `X`. -/
theorem body_triple (c : Dev nD) (E : Set ℕ) (i : grid0.Coords)
    (arg1 : Memref sig .tc .vmem S16x16384 .f32) (harg1 : arg1.IsWhole)
    (arg2 : Memref sig .tc .vmem S4x4x16384 .f32) (harg2 : arg2.IsWhole)
    (arg3 : Memref sig .tc .vmem S4x16384 .i32) (harg3 : arg3.IsWhole)
    (arg4 : Memref sig .tc .vmem S4x2x16384 .i32) (harg4 : arg4.IsWhole)
    (arg5 : Memref sig .tc .vmem S4x2x16384 .f32) (harg5 : arg5.IsWhole)
    (arg6 : Memref sig .tc .vmem S4x16384 .i32) (harg6 : arg6.IsWhole)
    (arg7 : Memref sig .tc .vmem S4x3x16384 .i32) (harg7 : arg7.IsWhole)
    (arg8 : Memref sig .tc .vmem S4x2x16384 .f32) (harg8 : arg8.IsWhole)
    (arg9 : Memref sig .tc .vmem S4x16384 .i32) (harg9 : arg9.IsWhole)
    (arg10 : Memref sig .tc .vmem S4x2x16384 .i32) (harg10 : arg10.IsWhole)
    (arg11 : Memref sig .tc .vmem S4x2x16384 .f32) (harg11 : arg11.IsWhole)
    (arg12 : Memref sig .tc .vmem S4x16384 .i32) (harg12 : arg12.IsWhole)
    (arg13 : Memref sig .tc .vmem S4x3x16384 .i32) (harg13 : arg13.IsWhole)
    (arg14 : Memref sig .tc .vmem S4x2x16384 .f32) (harg14 : arg14.IsWhole)
    (X : Vec F S16x16384 .f32) (K : PUnit → sProp 𝕄) :
    iprop(owns (c : Thread nD τ) arg1 fullShare X
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (iprop(owns (c : Thread nD τ) arg1 fullShare X
            ∗ owns (c : Thread nD τ) arg2 fullShare (stacked polarRows X)
            ∗ owns (c : Thread nD τ) arg3 fullShare (flat fine.plane X)
            ∗ owns (c : Thread nD τ) arg4 fullShare (stacked fine.planeRows X)
            ∗ owns (c : Thread nD τ) arg5 fullShare (stacked fine.planeOffsets X)
            ∗ owns (c : Thread nD τ) arg6 fullShare (flat fine.solid X)
            ∗ owns (c : Thread nD τ) arg7 fullShare (stacked fine.solidRows X)
            ∗ owns (c : Thread nD τ) arg8 fullShare (stacked fine.solidOffsets X)
            ∗ owns (c : Thread nD τ) arg9 fullShare (flat coarse.plane X)
            ∗ owns (c : Thread nD τ) arg10 fullShare (stacked coarse.planeRows X)
            ∗ owns (c : Thread nD τ) arg11 fullShare (stacked coarse.planeOffsets X)
            ∗ owns (c : Thread nD τ) arg12 fullShare (flat coarse.solid X)
            ∗ owns (c : Thread nD τ) arg13 fullShare (stacked coarse.solidRows X)
            ∗ owns (c : Thread nD τ) arg14 fullShare (stacked coarse.solidOffsets X)) -∗ K ⟨⟩))
      ⊢ wp frame (wpE (defs₀ (F := F)) Variants.none c none) E
          (cc0__tc_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__tc_body_eq_skeleton]; unfold cc0__tc_body_skel
  simp only [k0_part1_eq_skeleton, k0_part2_eq_skeleton, k0_part3_eq_skeleton, k0_part4_eq_skeleton, k0_part5_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0
  sl_exec
  sl_step
  iapply Hk
  isplitl [H0]
  · iexists f0; isplitr; · ipureintro; rfl
    iexact H0
  isplitl [H1]
  · iexists _; isplitr; swap; · iexact H1
    ipureintro; exact store_four _ _ _ _ _ _ _ _ (rho_block _) (phi_block _) (height_block _) (intensity_block _)
  isplitl [H2]
  · iexists _; isplitr; swap; · iexact H2
    ipureintro; exact store_flat _ _ _ _ _ (fine_plane _)
  isplitl [H3]
  · iexists _; isplitr; swap; · iexact H3
    ipureintro; exact store_two _ _ _ _ _ _ (fine_cr _) (fine_ca _)
  isplitl [H4]
  · iexists _; isplitr; swap; · iexact H4
    ipureintro; exact store_two _ _ _ _ _ _ (fine_fr _) (fine_fa _)
  isplitl [H5]
  · iexists _; isplitr; swap; · iexact H5
    ipureintro; exact store_flat _ _ _ _ _ (fine_solid _)
  isplitl [H6]
  · iexists _; isplitr; swap; · iexact H6
    ipureintro; exact store_three _ _ _ _ _ _ _ (fine_cr _) (fine_ca _) (fine_ch _)
  isplitl [H7]
  · iexists _; isplitr; swap; · iexact H7
    ipureintro; unfold body_triple.sl.r_10; exact store_two _ _ _ _ _ _ (fine_fr _) (fine_fh _)
  isplitl [H8]
  · iexists _; isplitr; swap; · iexact H8
    ipureintro; exact store_flat _ _ _ _ _ (coarse_plane _)
  isplitl [H9]
  · iexists _; isplitr; swap; · iexact H9
    ipureintro; exact store_two _ _ _ _ _ _ (coarse_cr _) (coarse_ca _)
  isplitl [H10]
  · iexists _; isplitr; swap; · iexact H10
    ipureintro; exact store_two _ _ _ _ _ _ (coarse_fr _) (coarse_fa _)
  isplitl [H11]
  · iexists _; isplitr; swap; · iexact H11
    ipureintro; exact store_flat _ _ _ _ _ (coarse_solid _)
  isplitl [H12]
  · iexists _; isplitr; swap; · iexact H12
    ipureintro; exact store_three _ _ _ _ _ _ _ (coarse_cr _) (coarse_ca _) (coarse_ch _)
  iexists _; isplitr; swap; · iexact H13
  ipureintro; exact store_two _ _ _ _ _ _ (coarse_fr _) (coarse_fh _)

end Cert.Points

end
-- ==== Proof.Blocks.lean ====
/-
  The blocks the pipeline moves.

  The grid has eight points; point `t` works on columns `16384 t …` of every table. The last block would reach past the
  120000 columns, so its transfers stop at the tables' end: the input block then holds points of the table only in its
  first columns, and anything after them. Since every result treats a point on its own, the columns that are written
  back depend on the columns that were fetched alone (`…_cut`), and the eight blocks of a table fill it (`…_covered`).
-/
module

public import proofs.«01_k».proof.Proof.Body
public import proofs.«01_k».proof.Proof.Gen.KernelIdeal.Points
public import proofs.«01_k».proof.Proof.Gen.KernelIdeal.Frame

@[expose] public section

set_option maxRecDepth 16384

noncomputable section

namespace Cert.Points

open Cert.KernelIdeal Cert.KernelIdeal.Gen
open Idealize.ShloMosaic Idealize.ShloMosaic.ValueIdx Idealize.ShloMosaic.TcCoe
open Idealize.ShloMosaic.Pipeline (Dat Cfg Window)

variable {F : FTy → Type} [FloatOps F]

/-! ## The columns of a point of the grid -/

/-- The first column of point `t`'s blocks, -/
abbrev start (t : Fin cfg0.N) : Nat := win0_0.index t 1 * 16384

/-- and how many of their columns lie inside the tables. -/
abbrev inside (t : Fin cfg0.N) : Nat := win0_0.xsize (grid0.coords t) 1

/-- The columns of the eight points fill the tables. -/
theorem point_of_column (n : Nat) (h : n < 120000) : ∃ t : Fin cfg0.N, start t ≤ n ∧ n < start t + inside t := by
  have key : ∀ t : Fin cfg0.N, start t = t.val * 16384 ∧ inside t = min 16384 (120000 - t.val * 16384) := by
    intro t
    rcases fin_N0 t with rfl | rfl | rfl | rfl | rfl | rfl | rfl | rfl <;> decide +kernel
  refine ⟨⟨n / 16384, by show _ < grid0.N; rw [N_0]; omega⟩, ?_⟩
  rw [(key _).1, (key _).2]
  dsimp only
  omega

/-! ## The input block -/

/-- The input block at point `t`: the table's columns where the block lies inside it, `d` past its end. -/
def fetched (t : Fin cfg0.N) (d : Vec F S16x16384 .f32) (P : Vec F S16x120000 .f32) : Vec F S16x16384 .f32 :=
  win0_0.fill (grid0.coords t) d ((win0_0.blk t).view.read (Elt F) P)

theorem fetched_apply (t : Fin cfg0.N) (d : Vec F S16x16384 .f32) (P : Vec F S16x120000 .f32)
    (i : S16x16384.Idx) (i' : S16x120000.Idx) (h0 : (i' 0).val = (i 0).val) (h1 : (i' 1).val = start t + (i 1).val)
    (hi : (i 1).val < inside t) : fetched t d P i = P i' := by
  have hm : win0_0.moved (grid0.coords t) i = true := (win0_0.moved_iff _ _).mpr fun a =>
    match a with
    | ⟨0, _⟩ => (i 0).isLt
    | ⟨1, _⟩ => hi
  unfold fetched Window.fill
  rw [dif_pos hm]
  refine congrArg P (Shape.idx_ext₂ ?_ ?_)
  · show 0 * 16 + 1 * (i 0).val = (i' 0).val
    omega
  · show start t + 1 * (i 1).val = (i' 1).val
    omega

/-- A point of the input block inside the table is the table's. -/
theorem column_fetched (t : Fin cfg0.N) (d : Vec F S16x16384 .f32) (P : Vec F S16x120000 .f32) (b b' : Fin 4)
    (j : Fin 16384) (j' : Fin 120000) (hb : b'.val = 0 * 4 + 1 * b.val) (hj : j'.val = start t + 1 * j.val) (hi : j.val < inside t) :
    column (fetched t d P) b j = column P b' j' := by
  funext r
  refine fetched_apply t d P _ _ ?_ ?_ hi
  · show 4 * r.val + b'.val = 4 * r.val + b.val
    omega
  · show j'.val = start t + j.val
    omega

/-- So the tables over the input block and over the whole table agree there, -/
theorem flat_fetched {E : Type} (g : Pt F → E) (t : Fin cfg0.N) (d : Vec F S16x16384 .f32) (P : Vec F S16x120000 .f32)
    (i : S4x16384.Idx) (i' : (⟨2, ![4, 120000]⟩ : Shape).Idx) (h0 : (i' 0).val = 0 * 4 + 1 * (i 0).val)
    (h1 : (i' 1).val = start t + 1 * (i 1).val) (hi : (i 1).val < inside t) :
    flat g (fetched t d P) i = flat g P i' :=
  congrArg g (column_fetched t d P _ _ _ _ h0 h1 hi)

/-- one row per cloud or several. -/
theorem stacked_fetched {k : Nat} {E : Type} (g : Fin k → Pt F → E) (t : Fin cfg0.N) (d : Vec F S16x16384 .f32) (P : Vec F S16x120000 .f32)
    (i : (⟨3, ![4, k, 16384]⟩ : Shape).Idx) (i' : (⟨3, ![4, k, 120000]⟩ : Shape).Idx) (h0 : (i' 0).val = 0 * 4 + 1 * (i 0).val)
    (h1 : (i' 1).val = 0 * k + 1 * (i 1).val) (h2 : (i' 2).val = start t + 1 * (i 2).val) (hi : (i 2).val < inside t) :
    stacked g (fetched t d P) i = stacked g P i' := by
  have e : (i 1 : Fin k) = (i' 1 : Fin k) := Fin.ext (by rw [h1]; omega)
  exact congrArg₂ (fun (q : Fin k) (p : Pt F) => g q p) e (column_fetched t d P _ _ _ _ h0 h2 hi)

/-! ## The output blocks -/

section Cuts

variable (t : Fin cfg0.N) (d : Vec F S16x16384 .f32) (P : Vec F S16x120000 .f32)

/-- What is written back of each output block is that block of the table over all points. -/
theorem cut_1 (g : Fin 4 → Pt F → F .f32) :
    win0_1.cut (grid0.coords t) (stacked g (fetched t d P)) = (win0_1.blk t).view.read (Elt F) (stacked g P) :=
  funext fun j => stacked_fetched g t d P _ _ rfl rfl rfl (j 2).isLt
theorem cut_2 (g : Pt F → BitVec 32) :
    win0_2.cut (grid0.coords t) (flat g (fetched t d P)) = (win0_2.blk t).view.read (Elt F) (flat g P) :=
  funext fun j => flat_fetched g t d P _ _ rfl rfl (j 1).isLt
theorem cut_3 (g : Fin 2 → Pt F → BitVec 32) :
    win0_3.cut (grid0.coords t) (stacked g (fetched t d P)) = (win0_3.blk t).view.read (Elt F) (stacked g P) :=
  funext fun j => stacked_fetched g t d P _ _ rfl rfl rfl (j 2).isLt
theorem cut_4 (g : Fin 2 → Pt F → F .f32) :
    win0_4.cut (grid0.coords t) (stacked g (fetched t d P)) = (win0_4.blk t).view.read (Elt F) (stacked g P) :=
  funext fun j => stacked_fetched g t d P _ _ rfl rfl rfl (j 2).isLt
theorem cut_5 (g : Pt F → BitVec 32) :
    win0_5.cut (grid0.coords t) (flat g (fetched t d P)) = (win0_5.blk t).view.read (Elt F) (flat g P) :=
  funext fun j => flat_fetched g t d P _ _ rfl rfl (j 1).isLt
theorem cut_6 (g : Fin 3 → Pt F → BitVec 32) :
    win0_6.cut (grid0.coords t) (stacked g (fetched t d P)) = (win0_6.blk t).view.read (Elt F) (stacked g P) :=
  funext fun j => stacked_fetched g t d P _ _ rfl rfl rfl (j 2).isLt
theorem cut_7 (g : Fin 2 → Pt F → F .f32) :
    win0_7.cut (grid0.coords t) (stacked g (fetched t d P)) = (win0_7.blk t).view.read (Elt F) (stacked g P) :=
  funext fun j => stacked_fetched g t d P _ _ rfl rfl rfl (j 2).isLt
theorem cut_8 (g : Pt F → BitVec 32) :
    win0_8.cut (grid0.coords t) (flat g (fetched t d P)) = (win0_8.blk t).view.read (Elt F) (flat g P) :=
  funext fun j => flat_fetched g t d P _ _ rfl rfl (j 1).isLt
theorem cut_9 (g : Fin 2 → Pt F → BitVec 32) :
    win0_9.cut (grid0.coords t) (stacked g (fetched t d P)) = (win0_9.blk t).view.read (Elt F) (stacked g P) :=
  funext fun j => stacked_fetched g t d P _ _ rfl rfl rfl (j 2).isLt
theorem cut_10 (g : Fin 2 → Pt F → F .f32) :
    win0_10.cut (grid0.coords t) (stacked g (fetched t d P)) = (win0_10.blk t).view.read (Elt F) (stacked g P) :=
  funext fun j => stacked_fetched g t d P _ _ rfl rfl rfl (j 2).isLt
theorem cut_11 (g : Pt F → BitVec 32) :
    win0_11.cut (grid0.coords t) (flat g (fetched t d P)) = (win0_11.blk t).view.read (Elt F) (flat g P) :=
  funext fun j => flat_fetched g t d P _ _ rfl rfl (j 1).isLt
theorem cut_12 (g : Fin 3 → Pt F → BitVec 32) :
    win0_12.cut (grid0.coords t) (stacked g (fetched t d P)) = (win0_12.blk t).view.read (Elt F) (stacked g P) :=
  funext fun j => stacked_fetched g t d P _ _ rfl rfl rfl (j 2).isLt
theorem cut_13 (g : Fin 2 → Pt F → F .f32) :
    win0_13.cut (grid0.coords t) (stacked g (fetched t d P)) = (win0_13.blk t).view.read (Elt F) (stacked g P) :=
  funext fun j => stacked_fetched g t d P _ _ rfl rfl rfl (j 2).isLt

end Cuts

/-! ## The blocks fill the tables -/

/-- A column of the table is in the block of some point: an index of a table of one row per cloud is, -/
theorem flat_filled (i : (⟨2, ![4, 120000]⟩ : Shape).Idx)
    (off size : Fin cfg0.N → Fin 2 → Nat) (inb : ∀ t a, off t a + size t a ≤ (⟨2, ![4, 120000]⟩ : Shape).size a)
    (o0 : ∀ t, off t 0 = 0) (o1 : ∀ t, off t 1 = start t) (s0 : ∀ t, size t 0 = 4) (s1 : ∀ t, size t 1 = inside t) :
    ∃ t, i ∈ (Rect.unit (s := (⟨2, ![4, 120000]⟩ : Shape)) (off t) (size t) (inb t)).set := by
  obtain ⟨t, lo, hi⟩ := point_of_column (i 1).val (i 1).isLt
  refine ⟨t, (Rect.mem_set_unit ..).mpr fun a => ?_⟩
  match a with
  | ⟨0, _⟩ =>
    have h : (i 0).val < 4 := (i 0).isLt
    change off t 0 ≤ (i 0).val ∧ (i 0).val < off t 0 + size t 0
    rw [o0, s0]; omega
  | ⟨1, _⟩ =>
    change off t 1 ≤ (i 1).val ∧ (i 1).val < off t 1 + size t 1
    rw [o1, s1]; exact ⟨lo, hi⟩

/-- and so is one of a table of several. -/
theorem stacked_filled {k : Nat} (i : (⟨3, ![4, k, 120000]⟩ : Shape).Idx)
    (off size : Fin cfg0.N → Fin 3 → Nat) (inb : ∀ t a, off t a + size t a ≤ (⟨3, ![4, k, 120000]⟩ : Shape).size a)
    (o0 : ∀ t, off t 0 = 0) (o1 : ∀ t, off t 1 = 0) (o2 : ∀ t, off t 2 = start t)
    (s0 : ∀ t, size t 0 = 4) (s1 : ∀ t, size t 1 = k) (s2 : ∀ t, size t 2 = inside t) :
    ∃ t, i ∈ (Rect.unit (s := (⟨3, ![4, k, 120000]⟩ : Shape)) (off t) (size t) (inb t)).set := by
  obtain ⟨t, lo, hi⟩ := point_of_column (i 2).val (i 2).isLt
  refine ⟨t, (Rect.mem_set_unit ..).mpr fun a => ?_⟩
  match a with
  | ⟨0, _⟩ =>
    have h : (i 0).val < 4 := (i 0).isLt
    change off t 0 ≤ (i 0).val ∧ (i 0).val < off t 0 + size t 0
    rw [o0, s0]; omega
  | ⟨1, _⟩ =>
    have h : (i 1).val < k := (i 1).isLt
    change off t 1 ≤ (i 1).val ∧ (i 1).val < off t 1 + size t 1
    rw [o1, s1]; omega
  | ⟨2, _⟩ =>
    change off t 2 ≤ (i 2).val ∧ (i 2).val < off t 2 + size t 2
    rw [o2, s2]; exact ⟨lo, hi⟩

/-- Every index of the `w`-th table is in the block of some point. -/
theorem covered_1 (i : (⟨3, ![4, 4, 120000]⟩ : Shape).Idx) : ∃ t : Fin cfg0.N, i ∈ (win0_1.blk t).view.set := by
  obtain ⟨t, h⟩ := stacked_filled i (fun t a => win0_1.index t a * win0_1.size a) (fun t => win0_1.xsize (grid0.coords t)) (fun t a => Pipeline.Clip.OkAt.inb (win0_1.hclip (grid0.coords t) a))
    (fun _ => rfl) (fun _ => rfl) (fun _ => rfl) (fun _ => rfl) (fun _ => rfl) (fun _ => rfl)
  refine ⟨t, ?_⟩
  show i ∈ ((View.whole main_v2_0).slice (win0_1.rect t)).set
  rw [View.set_slice_whole]; exact h
theorem covered_2 (i : (⟨2, ![4, 120000]⟩ : Shape).Idx) : ∃ t : Fin cfg0.N, i ∈ (win0_2.blk t).view.set := by
  obtain ⟨t, h⟩ := flat_filled i (fun t a => win0_2.index t a * win0_2.size a) (fun t => win0_2.xsize (grid0.coords t)) (fun t a => Pipeline.Clip.OkAt.inb (win0_2.hclip (grid0.coords t) a))
    (fun _ => rfl) (fun _ => rfl) (fun _ => rfl) (fun _ => rfl)
  refine ⟨t, ?_⟩
  show i ∈ ((View.whole main_v2_1).slice (win0_2.rect t)).set
  rw [View.set_slice_whole]; exact h
theorem covered_3 (i : (⟨3, ![4, 2, 120000]⟩ : Shape).Idx) : ∃ t : Fin cfg0.N, i ∈ (win0_3.blk t).view.set := by
  obtain ⟨t, h⟩ := stacked_filled i (fun t a => win0_3.index t a * win0_3.size a) (fun t => win0_3.xsize (grid0.coords t)) (fun t a => Pipeline.Clip.OkAt.inb (win0_3.hclip (grid0.coords t) a))
    (fun _ => rfl) (fun _ => rfl) (fun _ => rfl) (fun _ => rfl) (fun _ => rfl) (fun _ => rfl)
  refine ⟨t, ?_⟩
  show i ∈ ((View.whole main_v2_2).slice (win0_3.rect t)).set
  rw [View.set_slice_whole]; exact h
theorem covered_4 (i : (⟨3, ![4, 2, 120000]⟩ : Shape).Idx) : ∃ t : Fin cfg0.N, i ∈ (win0_4.blk t).view.set := by
  obtain ⟨t, h⟩ := stacked_filled i (fun t a => win0_4.index t a * win0_4.size a) (fun t => win0_4.xsize (grid0.coords t)) (fun t a => Pipeline.Clip.OkAt.inb (win0_4.hclip (grid0.coords t) a))
    (fun _ => rfl) (fun _ => rfl) (fun _ => rfl) (fun _ => rfl) (fun _ => rfl) (fun _ => rfl)
  refine ⟨t, ?_⟩
  show i ∈ ((View.whole main_v2_3).slice (win0_4.rect t)).set
  rw [View.set_slice_whole]; exact h
theorem covered_5 (i : (⟨2, ![4, 120000]⟩ : Shape).Idx) : ∃ t : Fin cfg0.N, i ∈ (win0_5.blk t).view.set := by
  obtain ⟨t, h⟩ := flat_filled i (fun t a => win0_5.index t a * win0_5.size a) (fun t => win0_5.xsize (grid0.coords t)) (fun t a => Pipeline.Clip.OkAt.inb (win0_5.hclip (grid0.coords t) a))
    (fun _ => rfl) (fun _ => rfl) (fun _ => rfl) (fun _ => rfl)
  refine ⟨t, ?_⟩
  show i ∈ ((View.whole main_v2_4).slice (win0_5.rect t)).set
  rw [View.set_slice_whole]; exact h
theorem covered_6 (i : (⟨3, ![4, 3, 120000]⟩ : Shape).Idx) : ∃ t : Fin cfg0.N, i ∈ (win0_6.blk t).view.set := by
  obtain ⟨t, h⟩ := stacked_filled i (fun t a => win0_6.index t a * win0_6.size a) (fun t => win0_6.xsize (grid0.coords t)) (fun t a => Pipeline.Clip.OkAt.inb (win0_6.hclip (grid0.coords t) a))
    (fun _ => rfl) (fun _ => rfl) (fun _ => rfl) (fun _ => rfl) (fun _ => rfl) (fun _ => rfl)
  refine ⟨t, ?_⟩
  show i ∈ ((View.whole main_v2_5).slice (win0_6.rect t)).set
  rw [View.set_slice_whole]; exact h
theorem covered_7 (i : (⟨3, ![4, 2, 120000]⟩ : Shape).Idx) : ∃ t : Fin cfg0.N, i ∈ (win0_7.blk t).view.set := by
  obtain ⟨t, h⟩ := stacked_filled i (fun t a => win0_7.index t a * win0_7.size a) (fun t => win0_7.xsize (grid0.coords t)) (fun t a => Pipeline.Clip.OkAt.inb (win0_7.hclip (grid0.coords t) a))
    (fun _ => rfl) (fun _ => rfl) (fun _ => rfl) (fun _ => rfl) (fun _ => rfl) (fun _ => rfl)
  refine ⟨t, ?_⟩
  show i ∈ ((View.whole main_v2_6).slice (win0_7.rect t)).set
  rw [View.set_slice_whole]; exact h
theorem covered_8 (i : (⟨2, ![4, 120000]⟩ : Shape).Idx) : ∃ t : Fin cfg0.N, i ∈ (win0_8.blk t).view.set := by
  obtain ⟨t, h⟩ := flat_filled i (fun t a => win0_8.index t a * win0_8.size a) (fun t => win0_8.xsize (grid0.coords t)) (fun t a => Pipeline.Clip.OkAt.inb (win0_8.hclip (grid0.coords t) a))
    (fun _ => rfl) (fun _ => rfl) (fun _ => rfl) (fun _ => rfl)
  refine ⟨t, ?_⟩
  show i ∈ ((View.whole main_v2_7).slice (win0_8.rect t)).set
  rw [View.set_slice_whole]; exact h
theorem covered_9 (i : (⟨3, ![4, 2, 120000]⟩ : Shape).Idx) : ∃ t : Fin cfg0.N, i ∈ (win0_9.blk t).view.set := by
  obtain ⟨t, h⟩ := stacked_filled i (fun t a => win0_9.index t a * win0_9.size a) (fun t => win0_9.xsize (grid0.coords t)) (fun t a => Pipeline.Clip.OkAt.inb (win0_9.hclip (grid0.coords t) a))
    (fun _ => rfl) (fun _ => rfl) (fun _ => rfl) (fun _ => rfl) (fun _ => rfl) (fun _ => rfl)
  refine ⟨t, ?_⟩
  show i ∈ ((View.whole main_v2_8).slice (win0_9.rect t)).set
  rw [View.set_slice_whole]; exact h
theorem covered_10 (i : (⟨3, ![4, 2, 120000]⟩ : Shape).Idx) : ∃ t : Fin cfg0.N, i ∈ (win0_10.blk t).view.set := by
  obtain ⟨t, h⟩ := stacked_filled i (fun t a => win0_10.index t a * win0_10.size a) (fun t => win0_10.xsize (grid0.coords t)) (fun t a => Pipeline.Clip.OkAt.inb (win0_10.hclip (grid0.coords t) a))
    (fun _ => rfl) (fun _ => rfl) (fun _ => rfl) (fun _ => rfl) (fun _ => rfl) (fun _ => rfl)
  refine ⟨t, ?_⟩
  show i ∈ ((View.whole main_v2_9).slice (win0_10.rect t)).set
  rw [View.set_slice_whole]; exact h
theorem covered_11 (i : (⟨2, ![4, 120000]⟩ : Shape).Idx) : ∃ t : Fin cfg0.N, i ∈ (win0_11.blk t).view.set := by
  obtain ⟨t, h⟩ := flat_filled i (fun t a => win0_11.index t a * win0_11.size a) (fun t => win0_11.xsize (grid0.coords t)) (fun t a => Pipeline.Clip.OkAt.inb (win0_11.hclip (grid0.coords t) a))
    (fun _ => rfl) (fun _ => rfl) (fun _ => rfl) (fun _ => rfl)
  refine ⟨t, ?_⟩
  show i ∈ ((View.whole main_v2_10).slice (win0_11.rect t)).set
  rw [View.set_slice_whole]; exact h
theorem covered_12 (i : (⟨3, ![4, 3, 120000]⟩ : Shape).Idx) : ∃ t : Fin cfg0.N, i ∈ (win0_12.blk t).view.set := by
  obtain ⟨t, h⟩ := stacked_filled i (fun t a => win0_12.index t a * win0_12.size a) (fun t => win0_12.xsize (grid0.coords t)) (fun t a => Pipeline.Clip.OkAt.inb (win0_12.hclip (grid0.coords t) a))
    (fun _ => rfl) (fun _ => rfl) (fun _ => rfl) (fun _ => rfl) (fun _ => rfl) (fun _ => rfl)
  refine ⟨t, ?_⟩
  show i ∈ ((View.whole main_v2_11).slice (win0_12.rect t)).set
  rw [View.set_slice_whole]; exact h
theorem covered_13 (i : (⟨3, ![4, 2, 120000]⟩ : Shape).Idx) : ∃ t : Fin cfg0.N, i ∈ (win0_13.blk t).view.set := by
  obtain ⟨t, h⟩ := stacked_filled i (fun t a => win0_13.index t a * win0_13.size a) (fun t => win0_13.xsize (grid0.coords t)) (fun t a => Pipeline.Clip.OkAt.inb (win0_13.hclip (grid0.coords t) a))
    (fun _ => rfl) (fun _ => rfl) (fun _ => rfl) (fun _ => rfl) (fun _ => rfl) (fun _ => rfl)
  refine ⟨t, ?_⟩
  show i ∈ ((View.whole main_v2_12).slice (win0_13.rect t)).set
  rw [View.set_slice_whole]; exact h

end Cert.Points

end
-- ==== Proof.Run.lean ====
/-
  The run of the kernel's program.

  The host turns the argument into the table of sixteen rows, the pipeline runs the body on the eight blocks and the host
  turns the stacked results so that the rows of a point come last. `run` : from any memory every execution of the
  program ends with each result at its table over all points, the argument unchanged and every semaphore counter at
  zero.
-/
module

public import proofs.«01_k».proof.Proof.Blocks
public import Idealize.ShloMosaic.Lib.Pipeline.FrameSuffix
public import Idealize.ShloMosaic.Lib.Claim

@[expose] public section

set_option maxRecDepth 16384

noncomputable section

namespace Cert.Points

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The table of all points, as the region finds it. -/
abbrev table (c : Dev nD) : Vec F S16x120000 .f32 := V m c main_v1

/-- The input block at point `t`; past the table's end, where nothing is stated, zeros stand. -/
abbrev block (c : Dev nD) (t : Fin cfg0.N) : Vec F S16x16384 .f32 :=
  fetched t (fun _ => Scalar.ofBits .f32 0#32) (table m c)

/-- The arrays as the region finds them; after the body at a point, the input block as it was and each output block at
    its table over it; nothing is owed and the shares are full. -/
def dats (_ : Fin 1) (c : Dev nD) : Dat τ (Elt F) Unit ℕ (UR sig nD τ) ℕ cfg0 c where
  A w := V m c (Pipeline.arrRef spec0 w)
  after w t := match w with
    | ⟨0, _⟩ => block m c t
    | ⟨1, _⟩ => stacked polarRows (block m c t)
    | ⟨2, _⟩ => flat fine.plane (block m c t)
    | ⟨3, _⟩ => stacked fine.planeRows (block m c t)
    | ⟨4, _⟩ => stacked fine.planeOffsets (block m c t)
    | ⟨5, _⟩ => flat fine.solid (block m c t)
    | ⟨6, _⟩ => stacked fine.solidRows (block m c t)
    | ⟨7, _⟩ => stacked fine.solidOffsets (block m c t)
    | ⟨8, _⟩ => flat coarse.plane (block m c t)
    | ⟨9, _⟩ => stacked coarse.planeRows (block m c t)
    | ⟨10, _⟩ => stacked coarse.planeOffsets (block m c t)
    | ⟨11, _⟩ => flat coarse.solid (block m c t)
    | ⟨12, _⟩ => stacked coarse.solidRows (block m c t)
    | ⟨13, _⟩ => stacked coarse.solidOffsets (block m c t)
  Φ _ := Pipeline.ΦA spec0 c
  q _ := fullShare
  owed _ := 0

theorem arrays_eq (c : Dev nD) (w : Fin cfg0.W) : (dats m 0 c).A w = V m c (Pipeline.arrRef spec0 w) := by
  dsimp only [dats]

/-- The input window fetches at every point, so the body finds the table's columns there, and anything past its end. -/
theorem before_input (c : Dev nD) (t : Fin cfg0.N) (d) : (dats m 0 c).before 0 t d = fetched t d (table m c) := by
  unfold Dat.before; rw [if_pos (fetch0_0 t)]; rfl

/-! ## The body's obligation -/

/-- A staging buffer that agrees with the stated contents on the part written back may be handed back: the
    obligation says nothing of the rest. -/
theorem hand_back (c : Dev nD) (w : Window sig grid0) (t : Fin cfg0.N) (s : Fin w.nbuf)
    (X Y : w.block.Idx → Elt F w.elt) (h : w.cut (grid0.coords t) X = w.cut (grid0.coords t) Y) :
    (owns (c : Thread nD τ) (w.stage s) fullShare X : sProp 𝕄)
      ⊢ iprop(∃ d, owns (c : Thread nD τ) (w.stage s) fullShare (w.fill (grid0.coords t) d (w.cut (grid0.coords t) Y))) := by
  iintro H
  iexists X
  rw [w.fill_congr_cut _ h]
  iexact H

/-- The body table's row at a point is the body on that point's staging buffers. -/
theorem row_eq (t : Fin cfg0.N) : defs₀ (F := F) .tc cfg0.body (cfg0.bodyArgs t (cfg0.slots t)) = bodyAt0 t := by
  unfold defs₀; rw [Defs.onTc_tc]

set_option maxHeartbeats 1000000 in
/-- The body at any point: every block it leaves agrees with the stated one on the columns inside the tables. -/
theorem obligation (c : Dev nD) : BodyObligationLoose (dats (F := F) m 0 c) (defs₀ (F := F)) Variants.none () Set.univ := fun t => by
  rw [bigSep_W0, bigSep_W0, row_eq]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_input m c t d0]
  unfold bodyAt0
  iapply (body_triple c Set.univ (grid0.coords t) _ _ _ _ _ _ _ _ _ _ _ _ _ _ _ _ _ _ _ _ _ _ _ _ _ _ _ _ (fetched t d0 (table m c)) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]
  · iapply (hand_back c win0_0 t (cfg0.slots t 0) (fetched t d0 (table m c)) (block m c t) ((win0_0.cut_fill _ _ _).trans (win0_0.cut_fill _ _ _).symm))
    iexact H0
  isplitl [H1]
  · iapply (hand_back c win0_1 t (cfg0.slots t 1) (stacked polarRows (fetched t d0 (table m c))) (stacked polarRows (block m c t)) ((cut_1 _ _ _ _).trans (cut_1 _ _ _ _).symm))
    iexact H1
  isplitl [H2]
  · iapply (hand_back c win0_2 t (cfg0.slots t 2) (flat fine.plane (fetched t d0 (table m c))) (flat fine.plane (block m c t)) ((cut_2 _ _ _ _).trans (cut_2 _ _ _ _).symm))
    iexact H2
  isplitl [H3]
  · iapply (hand_back c win0_3 t (cfg0.slots t 3) (stacked fine.planeRows (fetched t d0 (table m c))) (stacked fine.planeRows (block m c t)) ((cut_3 _ _ _ _).trans (cut_3 _ _ _ _).symm))
    iexact H3
  isplitl [H4]
  · iapply (hand_back c win0_4 t (cfg0.slots t 4) (stacked fine.planeOffsets (fetched t d0 (table m c))) (stacked fine.planeOffsets (block m c t)) ((cut_4 _ _ _ _).trans (cut_4 _ _ _ _).symm))
    iexact H4
  isplitl [H5]
  · iapply (hand_back c win0_5 t (cfg0.slots t 5) (flat fine.solid (fetched t d0 (table m c))) (flat fine.solid (block m c t)) ((cut_5 _ _ _ _).trans (cut_5 _ _ _ _).symm))
    iexact H5
  isplitl [H6]
  · iapply (hand_back c win0_6 t (cfg0.slots t 6) (stacked fine.solidRows (fetched t d0 (table m c))) (stacked fine.solidRows (block m c t)) ((cut_6 _ _ _ _).trans (cut_6 _ _ _ _).symm))
    iexact H6
  isplitl [H7]
  · iapply (hand_back c win0_7 t (cfg0.slots t 7) (stacked fine.solidOffsets (fetched t d0 (table m c))) (stacked fine.solidOffsets (block m c t)) ((cut_7 _ _ _ _).trans (cut_7 _ _ _ _).symm))
    iexact H7
  isplitl [H8]
  · iapply (hand_back c win0_8 t (cfg0.slots t 8) (flat coarse.plane (fetched t d0 (table m c))) (flat coarse.plane (block m c t)) ((cut_8 _ _ _ _).trans (cut_8 _ _ _ _).symm))
    iexact H8
  isplitl [H9]
  · iapply (hand_back c win0_9 t (cfg0.slots t 9) (stacked coarse.planeRows (fetched t d0 (table m c))) (stacked coarse.planeRows (block m c t)) ((cut_9 _ _ _ _).trans (cut_9 _ _ _ _).symm))
    iexact H9
  isplitl [H10]
  · iapply (hand_back c win0_10 t (cfg0.slots t 10) (stacked coarse.planeOffsets (fetched t d0 (table m c))) (stacked coarse.planeOffsets (block m c t)) ((cut_10 _ _ _ _).trans (cut_10 _ _ _ _).symm))
    iexact H10
  isplitl [H11]
  · iapply (hand_back c win0_11 t (cfg0.slots t 11) (flat coarse.solid (fetched t d0 (table m c))) (flat coarse.solid (block m c t)) ((cut_11 _ _ _ _).trans (cut_11 _ _ _ _).symm))
    iexact H11
  isplitl [H12]
  · iapply (hand_back c win0_12 t (cfg0.slots t 12) (stacked coarse.solidRows (fetched t d0 (table m c))) (stacked coarse.solidRows (block m c t)) ((cut_12 _ _ _ _).trans (cut_12 _ _ _ _).symm))
    iexact H12
  iapply (hand_back c win0_13 t (cfg0.slots t 13) (stacked coarse.solidOffsets (fetched t d0 (table m c))) (stacked coarse.solidOffsets (block m c t)) ((cut_13 _ _ _ _).trans (cut_13 _ _ _ _).symm))
  iexact H13

/-! ## The arrays at the end -/

theorem final_1 (c : Dev nD) : (dats m 0 c).arrAt 1 cfg0.N = stacked polarRows (table m c) :=
  (dats m 0 c).arrAt_eq_of_cover 1 (stacked polarRows (table m c)) (fun t _ => cut_1 t (fun _ => Scalar.ofBits .f32 0#32) (table m c) polarRows)
    fun i => (covered_1 i).imp fun t h => ⟨flush0_1 t, h⟩
theorem final_2 (c : Dev nD) : (dats m 0 c).arrAt 2 cfg0.N = flat fine.plane (table m c) :=
  (dats m 0 c).arrAt_eq_of_cover 2 (flat fine.plane (table m c)) (fun t _ => cut_2 t (fun _ => Scalar.ofBits .f32 0#32) (table m c) fine.plane)
    fun i => (covered_2 i).imp fun t h => ⟨flush0_2 t, h⟩
theorem final_3 (c : Dev nD) : (dats m 0 c).arrAt 3 cfg0.N = stacked fine.planeRows (table m c) :=
  (dats m 0 c).arrAt_eq_of_cover 3 (stacked fine.planeRows (table m c)) (fun t _ => cut_3 t (fun _ => Scalar.ofBits .f32 0#32) (table m c) fine.planeRows)
    fun i => (covered_3 i).imp fun t h => ⟨flush0_3 t, h⟩
theorem final_4 (c : Dev nD) : (dats m 0 c).arrAt 4 cfg0.N = stacked fine.planeOffsets (table m c) :=
  (dats m 0 c).arrAt_eq_of_cover 4 (stacked fine.planeOffsets (table m c)) (fun t _ => cut_4 t (fun _ => Scalar.ofBits .f32 0#32) (table m c) fine.planeOffsets)
    fun i => (covered_4 i).imp fun t h => ⟨flush0_4 t, h⟩
theorem final_5 (c : Dev nD) : (dats m 0 c).arrAt 5 cfg0.N = flat fine.solid (table m c) :=
  (dats m 0 c).arrAt_eq_of_cover 5 (flat fine.solid (table m c)) (fun t _ => cut_5 t (fun _ => Scalar.ofBits .f32 0#32) (table m c) fine.solid)
    fun i => (covered_5 i).imp fun t h => ⟨flush0_5 t, h⟩
theorem final_6 (c : Dev nD) : (dats m 0 c).arrAt 6 cfg0.N = stacked fine.solidRows (table m c) :=
  (dats m 0 c).arrAt_eq_of_cover 6 (stacked fine.solidRows (table m c)) (fun t _ => cut_6 t (fun _ => Scalar.ofBits .f32 0#32) (table m c) fine.solidRows)
    fun i => (covered_6 i).imp fun t h => ⟨flush0_6 t, h⟩
theorem final_7 (c : Dev nD) : (dats m 0 c).arrAt 7 cfg0.N = stacked fine.solidOffsets (table m c) :=
  (dats m 0 c).arrAt_eq_of_cover 7 (stacked fine.solidOffsets (table m c)) (fun t _ => cut_7 t (fun _ => Scalar.ofBits .f32 0#32) (table m c) fine.solidOffsets)
    fun i => (covered_7 i).imp fun t h => ⟨flush0_7 t, h⟩
theorem final_8 (c : Dev nD) : (dats m 0 c).arrAt 8 cfg0.N = flat coarse.plane (table m c) :=
  (dats m 0 c).arrAt_eq_of_cover 8 (flat coarse.plane (table m c)) (fun t _ => cut_8 t (fun _ => Scalar.ofBits .f32 0#32) (table m c) coarse.plane)
    fun i => (covered_8 i).imp fun t h => ⟨flush0_8 t, h⟩
theorem final_9 (c : Dev nD) : (dats m 0 c).arrAt 9 cfg0.N = stacked coarse.planeRows (table m c) :=
  (dats m 0 c).arrAt_eq_of_cover 9 (stacked coarse.planeRows (table m c)) (fun t _ => cut_9 t (fun _ => Scalar.ofBits .f32 0#32) (table m c) coarse.planeRows)
    fun i => (covered_9 i).imp fun t h => ⟨flush0_9 t, h⟩
theorem final_10 (c : Dev nD) : (dats m 0 c).arrAt 10 cfg0.N = stacked coarse.planeOffsets (table m c) :=
  (dats m 0 c).arrAt_eq_of_cover 10 (stacked coarse.planeOffsets (table m c)) (fun t _ => cut_10 t (fun _ => Scalar.ofBits .f32 0#32) (table m c) coarse.planeOffsets)
    fun i => (covered_10 i).imp fun t h => ⟨flush0_10 t, h⟩
theorem final_11 (c : Dev nD) : (dats m 0 c).arrAt 11 cfg0.N = flat coarse.solid (table m c) :=
  (dats m 0 c).arrAt_eq_of_cover 11 (flat coarse.solid (table m c)) (fun t _ => cut_11 t (fun _ => Scalar.ofBits .f32 0#32) (table m c) coarse.solid)
    fun i => (covered_11 i).imp fun t h => ⟨flush0_11 t, h⟩
theorem final_12 (c : Dev nD) : (dats m 0 c).arrAt 12 cfg0.N = stacked coarse.solidRows (table m c) :=
  (dats m 0 c).arrAt_eq_of_cover 12 (stacked coarse.solidRows (table m c)) (fun t _ => cut_12 t (fun _ => Scalar.ofBits .f32 0#32) (table m c) coarse.solidRows)
    fun i => (covered_12 i).imp fun t h => ⟨flush0_12 t, h⟩
theorem final_13 (c : Dev nD) : (dats m 0 c).arrAt 13 cfg0.N = stacked coarse.solidOffsets (table m c) :=
  (dats m 0 c).arrAt_eq_of_cover 13 (stacked coarse.solidOffsets (table m c)) (fun t _ => cut_13 t (fun _ => Scalar.ofBits .f32 0#32) (table m c) coarse.solidOffsets)
    fun i => (covered_13 i).imp fun t h => ⟨flush0_13 t, h⟩

/-! ## The results -/

/-- The clouds as the program is given them. -/
abbrev clouds (c : Dev nD) : Vec F S4x120000x4 .f32 := m ((c : Thread nD τ).loc main_arg0)

/-- The host's first lines make the table of sixteen rows. -/
theorem table_eq (c : Dev nD) : table m c = shapeCast S16x120000 (transpose S4x4x120000 [2, 0, 1] (clouds m c)
    transposes_S4x120000x4_S4x4x120000_2_0_1) shapeCasts_S4x4x120000_S16x120000 := by
  show StableHlo.after (List.flatten [hostOps0]) (fun b => m (c, b)) (Proc.devRef .tc main_v1) = _
  simp only [hostOps0, List.flatten_cons, List.flatten_nil, List.append_nil]; after_results_simp <;> rfl

theorem column_table (c : Dev nD) (b : Fin 4) (j : Fin 120000) : column (table m c) b j = point (clouds m c) b j := by
  rw [table_eq]; exact column_merged (clouds m c) _ _ b j

/-- What a buffer holds after the host's last lines. -/
abbrev last (c : Dev nD) (b : Ref sig .tc) : Buf (Elt F) ((c : Thread nD τ).loc b) :=
  Pipeline.afterTail₀ cfgs (dats m) 0 (V0 m) [hostOps1] c b

/-- What the host's last lines find in an array of the pipeline. -/
theorem found (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c (V0 m c) (fun w => (dats m 0 c).arrAt w cfg0.N) w

theorem last_3 (c : Dev nD) : last m c main_v3 = perRow polarRows (clouds m c) := by
  rw [← transpose_stacked polarRows (table m c) (clouds m c) (column_table m c) transposes_S4x4x120000_S4x120000x4_0_2_1,
    ← final_1 m c, ← found m c 1]
  unfold last Pipeline.afterTail₀; simp only [hostOps1, List.flatten_cons, List.flatten_nil, List.append_nil]; after_results_simp <;> rfl
theorem last_4 (c : Dev nD) : last m c main_v4 = perRow fine.planeRows (clouds m c) := by
  rw [← transpose_stacked fine.planeRows (table m c) (clouds m c) (column_table m c) transposes_S4x2x120000_S4x120000x2_0_2_1,
    ← final_3 m c, ← found m c 3]
  unfold last Pipeline.afterTail₀; simp only [hostOps1, List.flatten_cons, List.flatten_nil, List.append_nil]; after_results_simp <;> rfl
theorem last_5 (c : Dev nD) : last m c main_v5 = perRow fine.planeOffsets (clouds m c) := by
  rw [← transpose_stacked fine.planeOffsets (table m c) (clouds m c) (column_table m c) transposes_S4x2x120000_S4x120000x2_0_2_1,
    ← final_4 m c, ← found m c 4]
  unfold last Pipeline.afterTail₀; simp only [hostOps1, List.flatten_cons, List.flatten_nil, List.append_nil]; after_results_simp <;> rfl
theorem last_6 (c : Dev nD) : last m c main_v6 = perRow fine.solidRows (clouds m c) := by
  rw [← transpose_stacked fine.solidRows (table m c) (clouds m c) (column_table m c) transposes_S4x3x120000_S4x120000x3_0_2_1,
    ← final_6 m c, ← found m c 6]
  unfold last Pipeline.afterTail₀; simp only [hostOps1, List.flatten_cons, List.flatten_nil, List.append_nil]; after_results_simp <;> rfl
theorem last_7 (c : Dev nD) : last m c main_v7 = perRow fine.solidOffsets (clouds m c) := by
  rw [← transpose_stacked fine.solidOffsets (table m c) (clouds m c) (column_table m c) transposes_S4x2x120000_S4x120000x2_0_2_1,
    ← final_7 m c, ← found m c 7]
  unfold last Pipeline.afterTail₀; simp only [hostOps1, List.flatten_cons, List.flatten_nil, List.append_nil]; after_results_simp <;> rfl
theorem last_8 (c : Dev nD) : last m c main_v8 = perRow coarse.planeRows (clouds m c) := by
  rw [← transpose_stacked coarse.planeRows (table m c) (clouds m c) (column_table m c) transposes_S4x2x120000_S4x120000x2_0_2_1,
    ← final_9 m c, ← found m c 9]
  unfold last Pipeline.afterTail₀; simp only [hostOps1, List.flatten_cons, List.flatten_nil, List.append_nil]; after_results_simp <;> rfl
theorem last_9 (c : Dev nD) : last m c main_v9 = perRow coarse.planeOffsets (clouds m c) := by
  rw [← transpose_stacked coarse.planeOffsets (table m c) (clouds m c) (column_table m c) transposes_S4x2x120000_S4x120000x2_0_2_1,
    ← final_10 m c, ← found m c 10]
  unfold last Pipeline.afterTail₀; simp only [hostOps1, List.flatten_cons, List.flatten_nil, List.append_nil]; after_results_simp <;> rfl
theorem last_10 (c : Dev nD) : last m c main_v10 = perRow coarse.solidRows (clouds m c) := by
  rw [← transpose_stacked coarse.solidRows (table m c) (clouds m c) (column_table m c) transposes_S4x3x120000_S4x120000x3_0_2_1,
    ← final_12 m c, ← found m c 12]
  unfold last Pipeline.afterTail₀; simp only [hostOps1, List.flatten_cons, List.flatten_nil, List.append_nil]; after_results_simp <;> rfl
theorem last_11 (c : Dev nD) : last m c main_v11 = perRow coarse.solidOffsets (clouds m c) := by
  rw [← transpose_stacked coarse.solidOffsets (table m c) (clouds m c) (column_table m c) transposes_S4x2x120000_S4x120000x2_0_2_1,
    ← final_13 m c, ← found m c 13]
  unfold last Pipeline.afterTail₀; simp only [hostOps1, List.flatten_cons, List.flatten_nil, List.append_nil]; after_results_simp <;> rfl

/-! ## The run -/

-- the launch theorem's implicit arguments are found by unifying its conclusion with this one
set_option backward.isDefEq.respectTransparency.types false in
set_option maxHeartbeats 800000 in
theorem run_raw : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hΦ := fun _ _ => rfl)

/-- The argument ends unchanged and every counter at zero. -/
theorem frame : θ_run defs (onTc (τ := τ) (main (F := F))) (s₀ m ρ) (fun r => (∀ c : Dev nD,
    r.2.mem ((c : Thread nD τ).loc main_arg0) = m ((c : Thread nD τ).loc main_arg0)) ∧ r.2.sem = fun _ => 0) :=
  (θ_run defs _ _).mono (fun r h => ⟨fun c => ((h.1 c).2 main_arg0 (Pipeline.mem_restRefs_of main_arg0 (by decide) (by decide))).trans
    (W_main_arg0 m (dats m) c), h.2⟩) (run_raw m ρ)

/-- Each result ends at its function of the points, and the argument unchanged. -/
theorem run : θ_run defs (onTc (τ := τ) (main (F := F))) (s₀ m ρ) (fun r => ∀ c : Dev nD,
      r.2.mem ((c : Thread nD τ).loc main_v3) = perRow polarRows (clouds m c)
    ∧ r.2.mem ((c : Thread nD τ).loc main_v2_1) = perPoint fine.plane (clouds m c)
    ∧ r.2.mem ((c : Thread nD τ).loc main_v4) = perRow fine.planeRows (clouds m c)
    ∧ r.2.mem ((c : Thread nD τ).loc main_v5) = perRow fine.planeOffsets (clouds m c)
    ∧ r.2.mem ((c : Thread nD τ).loc main_v2_4) = perPoint fine.solid (clouds m c)
    ∧ r.2.mem ((c : Thread nD τ).loc main_v6) = perRow fine.solidRows (clouds m c)
    ∧ r.2.mem ((c : Thread nD τ).loc main_v7) = perRow fine.solidOffsets (clouds m c)
    ∧ r.2.mem ((c : Thread nD τ).loc main_v2_7) = perPoint coarse.plane (clouds m c)
    ∧ r.2.mem ((c : Thread nD τ).loc main_v8) = perRow coarse.planeRows (clouds m c)
    ∧ r.2.mem ((c : Thread nD τ).loc main_v9) = perRow coarse.planeOffsets (clouds m c)
    ∧ r.2.mem ((c : Thread nD τ).loc main_v2_10) = perPoint coarse.solid (clouds m c)
    ∧ r.2.mem ((c : Thread nD τ).loc main_v10) = perRow coarse.solidRows (clouds m c)
    ∧ r.2.mem ((c : Thread nD τ).loc main_v11) = perRow coarse.solidOffsets (clouds m c)
    ∧ r.2.mem ((c : Thread nD τ).loc main_arg0) = m ((c : Thread nD τ).loc main_arg0)) :=
  (θ_run defs _ _).mono (fun r h c => by
    have rest := fun b hb => (h.1 c).2 b hb
    have arrays := fun w => (h.1 c).1 w
    exact ⟨(rest main_v3 (Pipeline.mem_restRefs_of main_v3 (by decide) (by decide))).trans (last_3 m c),
      (arrays 2).trans ((final_2 m c).trans (flat_eq _ _ _ (column_table m c))),
      (rest main_v4 (Pipeline.mem_restRefs_of main_v4 (by decide) (by decide))).trans (last_4 m c),
      (rest main_v5 (Pipeline.mem_restRefs_of main_v5 (by decide) (by decide))).trans (last_5 m c),
      (arrays 5).trans ((final_5 m c).trans (flat_eq _ _ _ (column_table m c))),
      (rest main_v6 (Pipeline.mem_restRefs_of main_v6 (by decide) (by decide))).trans (last_6 m c),
      (rest main_v7 (Pipeline.mem_restRefs_of main_v7 (by decide) (by decide))).trans (last_7 m c),
      (arrays 8).trans ((final_8 m c).trans (flat_eq _ _ _ (column_table m c))),
      (rest main_v8 (Pipeline.mem_restRefs_of main_v8 (by decide) (by decide))).trans (last_8 m c),
      (rest main_v9 (Pipeline.mem_restRefs_of main_v9 (by decide) (by decide))).trans (last_9 m c),
      (arrays 11).trans ((final_11 m c).trans (flat_eq _ _ _ (column_table m c))),
      (rest main_v10 (Pipeline.mem_restRefs_of main_v10 (by decide) (by decide))).trans (last_10 m c),
      (rest main_v11 (Pipeline.mem_restRefs_of main_v11 (by decide) (by decide))).trans (last_11 m c),
      (rest main_arg0 (Pipeline.mem_restRefs_of main_arg0 (by decide) (by decide))).trans (W_main_arg0 m (dats m) c)⟩)
    (run_raw m ρ)

end Cert.Points

end
-- ==== Proof.Reference.lean ====
/-
  The reference's results over the reals, point by point.

  The reference works on whole arrays: it slices a feature out of the clouds, works on the array of one number per point
  and sets the arrays of several numbers side by side at the end. Each array of one number per point is a function of
  the point (`perPoint`), and each result the function the kernel's table of the same name holds.
-/
module

public import proofs.«01_k».proof.Proof.Table
public import proofs.«01_k».proof.Proof.Gen.ReferenceIdeal.Run
public import Idealize.ShloMosaic.PureOps.Ideal

@[expose] public section

set_option maxRecDepth 16384

noncomputable section

namespace Cert.Points.Reference

open Cert.ReferenceIdeal Cert.ReferenceIdeal.Gen Cert.ReferenceIdeal.Value
open Idealize.ShloMosaic Idealize.ShloMosaic.ValueIdx Idealize.ShloMosaic.TcCoe Idealize.SL.Sem

/-! ## Slicing and setting side by side -/

/-- The slice of one feature, without its unit axis. -/
theorem slice_apply {E : Type} (X : S4x120000x4.Idx → E) (k : Fin 4) (hs : S4x120000x4.Slices ![0, 0, k.val] S4x120000x1)
    (hc : S4x120000x1.ShapeCasts S4x120000) (i : S4x120000.Idx) :
    shapeCast S4x120000 (extractStridedSlice S4x120000x1 ![0, 0, k.val] X hs) hc i = X (ix3 (i 0 : Fin 4) (i 1 : Fin 120000) k) := by
  rw [shapeCast_apply _ hc i (ix3 (i 0 : Fin 4) (i 1 : Fin 120000) (0 : Fin 1)) (by
    rw [Shape.rowMajor_val_two, Shape.rowMajor_val_three]
    show ((i 0).val * 120000 + (i 1).val) * 1 + 0 = (i 0).val * 120000 + (i 1).val
    omega)]
  exact extractStridedSlice_apply _ X hs _ _ (by
    intro a; fin_cases a
    · exact (Nat.zero_add _).symm
    · exact (Nat.zero_add _).symm
    · rfl)

/-- Arrays of one number per point, set side by side along a new last axis. -/
theorem beside_apply {E : Type} {k : Nat} (f : Fin k → S4x120000.Idx → E)
    (h : Shape.Concatenates ((List.ofFn fun n : Fin k => (⟨S4x120000x1, broadcastInDim S4x120000x1 ![0, 1]
      bcast_S4x120000_S4x120000x1_0_1 (f n)⟩ : (s : Shape) × (s.Idx → E))).map (·.1)) ⟨3, ![4, 120000, k]⟩ 2) :
    concatenate ⟨3, ![4, 120000, k]⟩ 2 (List.ofFn fun n : Fin k => (⟨S4x120000x1, broadcastInDim S4x120000x1 ![0, 1]
      bcast_S4x120000_S4x120000x1_0_1 (f n)⟩ : (s : Shape) × (s.Idx → E))) h
      = fun i => f (i 2) (ix2 (i 0 : Fin 4) (i 1 : Fin 120000)) := by
  funext i
  rw [concatenate_ofFn_unit_apply (t := ⟨3, ![4, 120000, k]⟩) (s₁ := S4x120000x1) 2 _ h rfl rfl i (i 2) rfl
    (ix3 (i 0 : Fin 4) (i 1 : Fin 120000) (0 : Fin 1)) (by
      intro b hb; fin_cases b
      · rfl
      · rfl
      · exact absurd rfl hb)]
  exact broadcastInDim_apply _ _ (f (i 2)) _ _ (by intro a; fin_cases a <;> rfl)

variable (A : S4x120000x4.Idx → Ideal .f32)

theorem beside_two {E : Type} (g : Fin 2 → Pt Ideal → E) {a b : S4x120000.Idx → E}
    (ha : a = perPoint (g 0) A) (hb : b = perPoint (g 1) A) :
    concatenate S4x120000x2 2 [⟨S4x120000x1, broadcastInDim S4x120000x1 ![0, 1] bcast_S4x120000_S4x120000x1_0_1 a⟩,
      ⟨S4x120000x1, broadcastInDim S4x120000x1 ![0, 1] bcast_S4x120000_S4x120000x1_0_1 b⟩]
      concatenates_S4x120000x1_S4x120000x1_S4x120000x2_d2 = perRow g A := by
  subst ha hb
  exact beside_apply (fun n => perPoint (g n) A) _

theorem beside_three {E : Type} (g : Fin 3 → Pt Ideal → E) {a b d : S4x120000.Idx → E}
    (ha : a = perPoint (g 0) A) (hb : b = perPoint (g 1) A) (hd : d = perPoint (g 2) A) :
    concatenate S4x120000x3 2 [⟨S4x120000x1, broadcastInDim S4x120000x1 ![0, 1] bcast_S4x120000_S4x120000x1_0_1 a⟩,
      ⟨S4x120000x1, broadcastInDim S4x120000x1 ![0, 1] bcast_S4x120000_S4x120000x1_0_1 b⟩,
      ⟨S4x120000x1, broadcastInDim S4x120000x1 ![0, 1] bcast_S4x120000_S4x120000x1_0_1 d⟩]
      concatenates_S4x120000x1_S4x120000x1_S4x120000x1_S4x120000x3_d2 = perRow g A := by
  subst ha hb hd
  exact beside_apply (fun n => perPoint (g n) A) _

theorem beside_four {E : Type} (g : Fin 4 → Pt Ideal → E) {a b d e : S4x120000.Idx → E}
    (ha : a = perPoint (g 0) A) (hb : b = perPoint (g 1) A) (hd : d = perPoint (g 2) A) (he : e = perPoint (g 3) A) :
    concatenate S4x120000x4 2 [⟨S4x120000x1, broadcastInDim S4x120000x1 ![0, 1] bcast_S4x120000_S4x120000x1_0_1 a⟩,
      ⟨S4x120000x1, broadcastInDim S4x120000x1 ![0, 1] bcast_S4x120000_S4x120000x1_0_1 b⟩,
      ⟨S4x120000x1, broadcastInDim S4x120000x1 ![0, 1] bcast_S4x120000_S4x120000x1_0_1 d⟩,
      ⟨S4x120000x1, broadcastInDim S4x120000x1 ![0, 1] bcast_S4x120000_S4x120000x1_0_1 e⟩]
      concatenates_S4x120000x1_S4x120000x1_S4x120000x1_S4x120000x1_S4x120000x4_d2 = perRow g A := by
  subst ha hb hd he
  exact beside_apply (fun n => perPoint (g n) A) _

/-! ## One number per point -/

/-- The place along an axis; -/
theorem place_eq (a : Axis) (f : Pt Ideal → Ideal .f32) :
    mulf (Host.divf (subf (perPoint f A) (broadcastInDim S4x120000 ![] bcast_S_S4x120000 (constant S_ .f32 a.start)))
      (broadcastInDim S4x120000 ![] bcast_S_S4x120000 (constant S_ .f32 a.length)))
      (broadcastInDim S4x120000 ![] bcast_S_S4x120000 (constant S_ .f32 a.cells))
      = (perPoint (fun p => a.place (f p)) A : FVec Ideal S4x120000 .f32) := rfl

/-- the cell; -/
theorem cell_eq (a : Axis) (f : Pt Ideal → Ideal .f32) :
    fptosi 32 (perPoint (fun p => a.place (f p)) A : FVec Ideal S4x120000 .f32) = perPoint (fun p => a.cell (f p)) A := rfl

/-- the offset inside the cell. -/
theorem offset_eq (a : Axis) (f : Pt Ideal → Ideal .f32) :
    subf (perPoint (fun p => a.place (f p)) A : FVec Ideal S4x120000 .f32) (sitofp .f32 (perPoint (fun p => a.cell (f p)) A))
      = perPoint (fun p => a.offset (f p)) A := rfl

/-- A cell number brought into its bounds. -/
theorem bounded_eq (top : BitVec 32) (f : Pt Ideal → BitVec 32) :
    minsi (broadcastInDim S4x120000 ![] bcast_S_S4x120000 (id (constantI S_ 32 top)))
      (maxsi (broadcastInDim S4x120000 ![] bcast_S_S4x120000 (id (constantI S_ 32 0#32))) (perPoint f A : IVec S4x120000 32))
      = perPoint (fun p => bounded top (f p)) A := rfl

/-- The flat number in the plane. -/
theorem plane_eq (g : Grid) :
    addi (muli (perPoint g.cr A : IVec S4x120000 32) (broadcastInDim S4x120000 ![] bcast_S_S4x120000 (constantI S_ 32 g.width)))
      (perPoint g.ca A) = perPoint g.plane A := rfl

/-- The flat number in the grid: the reference multiplies by the width and then by the depth, where the table has their
    product, and words multiply associatively. -/
theorem solid_eq (g : Grid) :
    addi (addi (muli (muli (perPoint g.cr A : IVec S4x120000 32) (broadcastInDim S4x120000 ![] bcast_S_S4x120000 (constantI S_ 32 g.width)))
        (broadcastInDim S4x120000 ![] bcast_S_S4x120000 (constantI S_ 32 g.depth)))
      (muli (perPoint g.ca A) (broadcastInDim S4x120000 ![] bcast_S_S4x120000 (constantI S_ 32 g.depth)))) (perPoint g.ch A)
      = perPoint g.solid A :=
  funext fun _ => congrArg (fun u => IntOp.addi (IntOp.addi u _) _) (BitVec.mul_assoc _ g.width g.depth)

variable (V0 : Valuation τ sig (Elt Ideal))

/-- The clouds as the reference is given them. -/
abbrev given : S4x120000x4.Idx → Ideal .f32 := V0 (Proc.devRef .tc main_arg0)

/-- A feature of the clouds. -/
theorem feature (k : Fin 4) (hs : S4x120000x4.Slices ![0, 0, k.val] S4x120000x1) :
    shapeCast S4x120000 (extractStridedSlice S4x120000x1 ![0, 0, k.val] (given V0) hs) shapeCasts_S4x120000x1_S4x120000
      = perPoint (fun p => p k) (given V0) :=
  funext fun i => slice_apply (given V0) k hs _ i

theorem xs : res_main_v1 V0 = perPoint (fun p => p 0) (given V0) := feature V0 0 _
theorem ys : res_main_v4 V0 = perPoint (fun p => p 1) (given V0) := feature V0 1 _

theorem polar : res_main_v25 V0 = perRow polarRows (given V0) := by
  unfold res_main_v25
  refine beside_four (given V0) polarRows ?_ ?_ ?_ ?_
  · rw [xs, ys]; rfl
  · change mulf (Host.divf (Host.atan2 (res_main_v4 V0) (res_main_v1 V0)) _) _ = _
    rw [xs, ys]; rfl
  · exact feature V0 2 _
  · exact feature V0 3 _

/-- A polar coordinate of the points. -/
theorem coordinate (k : Fin 4) (hs : S4x120000x4.Slices ![0, 0, k.val] S4x120000x1) :
    shapeCast S4x120000 (extractStridedSlice S4x120000x1 ![0, 0, k.val] (res_main_v25 V0) hs) shapeCasts_S4x120000x1_S4x120000
      = perPoint (polarRows k) (given V0) := by
  rw [polar]
  exact funext fun i => slice_apply (perRow polarRows (given V0)) k hs _ i

/-! ## The cells and the offsets -/

/-! ### The fine grid -/

theorem fine_r_place : res_main_v33 V0 = perPoint (fun p => fine.r.place (rho p)) (given V0) :=
  (congrArg (fun u : FVec Ideal S4x120000 .f32 => mulf (Host.divf (subf u _) _) _) (coordinate V0 0 _)).trans (place_eq (given V0) fine.r rho)

theorem fine_a_place : res_main_v44 V0 = perPoint (fun p => fine.a.place (phi p)) (given V0) :=
  (congrArg (fun u : FVec Ideal S4x120000 .f32 => mulf (Host.divf (subf u _) _) _) (coordinate V0 1 _)).trans (place_eq (given V0) fine.a phi)

theorem fine_h_place : res_main_v55 V0 = perPoint (fun p => fine.h.place (height p)) (given V0) :=
  (congrArg (fun u : FVec Ideal S4x120000 .f32 => mulf (Host.divf (subf u _) _) _) (coordinate V0 2 _)).trans (place_eq (given V0) fine.h height)

theorem fine_r_cell : res_main_v34 V0 = perPoint (fun p => fine.r.cell (rho p)) (given V0) :=
  (congrArg (fptosi 32) (fine_r_place V0)).trans (cell_eq (given V0) fine.r rho)

theorem fine_a_cell : res_main_v45 V0 = perPoint (fun p => fine.a.cell (phi p)) (given V0) :=
  (congrArg (fptosi 32) (fine_a_place V0)).trans (cell_eq (given V0) fine.a phi)

theorem fine_h_cell : res_main_v56 V0 = perPoint (fun p => fine.h.cell (height p)) (given V0) :=
  (congrArg (fptosi 32) (fine_h_place V0)).trans (cell_eq (given V0) fine.h height)

theorem fine_bounded : res_main_v59 V0 = perPoint fine.ca (given V0) := by
  unfold res_main_v59; rw [fine_a_cell]; exact bounded_eq (given V0) fine.top _

theorem fine_r_offset : res_main_v36 V0 = perPoint fine.fr (given V0) := by
  unfold res_main_v36; rw [fine_r_place, fine_r_cell]; exact offset_eq (given V0) fine.r rho
theorem fine_a_offset : subf (res_main_v44 V0) (sitofp .f32 (res_main_v45 V0)) = perPoint fine.fa (given V0) := by
  rw [fine_a_place, fine_a_cell]; exact offset_eq (given V0) fine.a phi
theorem fine_h_offset : subf (res_main_v55 V0) (sitofp .f32 (res_main_v56 V0)) = perPoint fine.fh (given V0) := by
  rw [fine_h_place, fine_h_cell]; exact offset_eq (given V0) fine.h height

theorem fine_plane : addi (muli (res_main_v34 V0) (broadcastInDim S4x120000 ![] bcast_S_S4x120000 (constantI S_ 32 200#32))) (res_main_v59 V0)
    = perPoint fine.plane (given V0) := by
  rw [fine_r_cell, fine_bounded]; exact plane_eq (given V0) fine

theorem fine_solid : addi (addi (muli (muli (res_main_v34 V0) (broadcastInDim S4x120000 ![] bcast_S_S4x120000 (constantI S_ 32 200#32)))
    (broadcastInDim S4x120000 ![] bcast_S_S4x120000 (constantI S_ 32 80#32))) (muli (res_main_v59 V0) (broadcastInDim S4x120000 ![] bcast_S_S4x120000 (constantI S_ 32 80#32)))) (res_main_v56 V0)
    = perPoint fine.solid (given V0) := by
  rw [fine_r_cell, fine_bounded, fine_h_cell]
  exact solid_eq (given V0) fine

/-! ### The coarse grid -/

theorem coarse_r_place : res_main_v91 V0 = perPoint (fun p => coarse.r.place (rho p)) (given V0) :=
  (congrArg (fun u : FVec Ideal S4x120000 .f32 => mulf (Host.divf (subf u _) _) _) (coordinate V0 0 _)).trans (place_eq (given V0) coarse.r rho)

theorem coarse_a_place : res_main_v102 V0 = perPoint (fun p => coarse.a.place (phi p)) (given V0) :=
  (congrArg (fun u : FVec Ideal S4x120000 .f32 => mulf (Host.divf (subf u _) _) _) (coordinate V0 1 _)).trans (place_eq (given V0) coarse.a phi)

theorem coarse_h_place : res_main_v113 V0 = perPoint (fun p => coarse.h.place (height p)) (given V0) :=
  (congrArg (fun u : FVec Ideal S4x120000 .f32 => mulf (Host.divf (subf u _) _) _) (coordinate V0 2 _)).trans (place_eq (given V0) coarse.h height)

theorem coarse_r_cell : res_main_v92 V0 = perPoint (fun p => coarse.r.cell (rho p)) (given V0) :=
  (congrArg (fptosi 32) (coarse_r_place V0)).trans (cell_eq (given V0) coarse.r rho)

theorem coarse_a_cell : res_main_v103 V0 = perPoint (fun p => coarse.a.cell (phi p)) (given V0) :=
  (congrArg (fptosi 32) (coarse_a_place V0)).trans (cell_eq (given V0) coarse.a phi)

theorem coarse_h_cell : res_main_v114 V0 = perPoint (fun p => coarse.h.cell (height p)) (given V0) :=
  (congrArg (fptosi 32) (coarse_h_place V0)).trans (cell_eq (given V0) coarse.h height)

theorem coarse_bounded : res_main_v117 V0 = perPoint coarse.ca (given V0) := by
  unfold res_main_v117; rw [coarse_a_cell]; exact bounded_eq (given V0) coarse.top _

theorem coarse_r_offset : res_main_v94 V0 = perPoint coarse.fr (given V0) := by
  unfold res_main_v94; rw [coarse_r_place, coarse_r_cell]; exact offset_eq (given V0) coarse.r rho
theorem coarse_a_offset : subf (res_main_v102 V0) (sitofp .f32 (res_main_v103 V0)) = perPoint coarse.fa (given V0) := by
  rw [coarse_a_place, coarse_a_cell]; exact offset_eq (given V0) coarse.a phi
theorem coarse_h_offset : subf (res_main_v113 V0) (sitofp .f32 (res_main_v114 V0)) = perPoint coarse.fh (given V0) := by
  rw [coarse_h_place, coarse_h_cell]; exact offset_eq (given V0) coarse.h height

theorem coarse_plane : addi (muli (res_main_v92 V0) (broadcastInDim S4x120000 ![] bcast_S_S4x120000 (constantI S_ 32 100#32))) (res_main_v117 V0)
    = perPoint coarse.plane (given V0) := by
  rw [coarse_r_cell, coarse_bounded]; exact plane_eq (given V0) coarse

theorem coarse_solid : addi (addi (muli (muli (res_main_v92 V0) (broadcastInDim S4x120000 ![] bcast_S_S4x120000 (constantI S_ 32 100#32)))
    (broadcastInDim S4x120000 ![] bcast_S_S4x120000 (constantI S_ 32 40#32))) (muli (res_main_v117 V0) (broadcastInDim S4x120000 ![] bcast_S_S4x120000 (constantI S_ 32 40#32)))) (res_main_v114 V0)
    = perPoint coarse.solid (given V0) := by
  rw [coarse_r_cell, coarse_bounded, coarse_h_cell]
  exact solid_eq (given V0) coarse

/-! ## The run -/

/-- The clouds as the reference is given them, in memory. -/
abbrev clouds (m : (ℓ : Loc nD τ sig) → Buf (Elt Ideal) ℓ) (c : Dev nD) : S4x120000x4.Idx → Ideal .f32 :=
  m ((c : Thread nD τ).loc main_arg0)

/-- Every run of the reference ends with each result at its function of the points and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25) = perRow polarRows (clouds m c)
      ∧ r.2.mem ((c : Thread nD τ).loc main_v75) = perPoint fine.plane (clouds m c)
      ∧ r.2.mem ((c : Thread nD τ).loc main_v62) = perRow fine.planeRows (clouds m c)
      ∧ r.2.mem ((c : Thread nD τ).loc main_v69) = perRow fine.planeOffsets (clouds m c)
      ∧ r.2.mem ((c : Thread nD τ).loc main_v83) = perPoint fine.solid (clouds m c)
      ∧ r.2.mem ((c : Thread nD τ).loc main_v66) = perRow fine.solidRows (clouds m c)
      ∧ r.2.mem ((c : Thread nD τ).loc main_v72) = perRow fine.solidOffsets (clouds m c)
      ∧ r.2.mem ((c : Thread nD τ).loc main_v133) = perPoint coarse.plane (clouds m c)
      ∧ r.2.mem ((c : Thread nD τ).loc main_v120) = perRow coarse.planeRows (clouds m c)
      ∧ r.2.mem ((c : Thread nD τ).loc main_v127) = perRow coarse.planeOffsets (clouds m c)
      ∧ r.2.mem ((c : Thread nD τ).loc main_v141) = perPoint coarse.solid (clouds m c)
      ∧ r.2.mem ((c : Thread nD τ).loc main_v124) = perRow coarse.solidRows (clouds m c)
      ∧ r.2.mem ((c : Thread nD τ).loc main_v130) = perRow coarse.solidOffsets (clouds m c)
      ∧ r.2.mem ((c : Thread nD τ).loc main_arg0) = m ((c : Thread nD τ).loc main_arg0) :=
  (θ_run defs _ _).mono (fun r h c => by
    obtain ⟨h0, h1, h2, h3, h4, h5, h6, h7, h8, h9, h10, h11, h12, ha⟩ := h c
    generalize hV : StableHlo.launchContents m c = W at *
    have hA : given W = clouds m c := by rw [← hV]
    rw [← hA]
    exact ⟨h0.trans (polar W), h1.trans (fine_plane W),
      h2.trans (beside_two _ fine.planeRows (fine_r_cell W) (fine_bounded W)),
      h3.trans (beside_two _ fine.planeOffsets (fine_r_offset W) (fine_a_offset W)),
      h4.trans (fine_solid W),
      h5.trans (beside_three _ fine.solidRows (fine_r_cell W) (fine_bounded W) (fine_h_cell W)),
      h6.trans (beside_two _ fine.solidOffsets (fine_r_offset W) (fine_h_offset W)),
      h7.trans (coarse_plane W),
      h8.trans (beside_two _ coarse.planeRows (coarse_r_cell W) (coarse_bounded W)),
      h9.trans (beside_two _ coarse.planeOffsets (coarse_r_offset W) (coarse_a_offset W)),
      h10.trans (coarse_solid W),
      h11.trans (beside_three _ coarse.solidRows (coarse_r_cell W) (coarse_bounded W) (coarse_h_cell W)),
      h12.trans (beside_two _ coarse.solidOffsets (coarse_r_offset W) (coarse_h_offset W)),
      ha⟩)
    (Cert.ReferenceIdeal.Value.run m ρ)

end Cert.Points.Reference

end
-- ==== Proof.Lanes.lean ====
/-
  The SparseCore call, one group of sixteen points at a time.

  A tile stages sixteen rows of 1024 points and works through one cloud after the other, sixteen points at a time:
  each trip loads the four features of the group, computes its four rows and stores them. `trip` is that program said
  once, with the places it reads and writes as parameters; the eight loops of the kernel run it. `loop_run`: after `k`
  trips the rows of the cloud are finished up to column `16 * k`.
-/
module

public import proofs.«01_k».proof.Proof.Table
public import proofs.«01_k».proof.Proof.Gen.TilesIdeal
public import proofs.«01_k».proof.Proof.Gen.TilesIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

set_option maxRecDepth 16384

noncomputable section

namespace Cert.Points.Sc

open Cert.TilesIdeal Cert.TilesIdeal.Gen
open Idealize.ShloMosaic Idealize.ShloMosaic.ValueIdx Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the handshakes -/
abbrev UH : Type := URounds (GSem nD τ sig) ℕ
/-- and of the copies. -/
abbrev UU : Type := UH × Counters

local notation "𝕄" => MT nD τ sig (HIx 1) (Elt F) ℕ UU ℕ
local notation "sI" => (Memref.whole Cert.TilesIdeal.cc0_scratch0 : Memref Cert.TilesIdeal.sig Kind.scVector Space.vmem Cert.TilesIdeal.S16x1024 EltTy.f32)
local notation "sO" => (Memref.whole Cert.TilesIdeal.cc0_scratch1 : Memref Cert.TilesIdeal.sig Kind.scVector Space.vmem Cert.TilesIdeal.S4x4x1024 EltTy.f32)

/-! ## The rows of a point -/

/-- The kernel's angle of sixteen points, from their x and y. -/
def angleV (x y : Vec F S1x16 .f32) : Vec F S16 .f32 :=
  k0_pay12 (k0_pay1 x) (k0_pay2 y) (k0_pay6 x) (k0_pay7 y) (k0_pay8 x y) (k0_pay9 x y) (k0_pay10 x y) k0_pay11

/-- The kernel's angle of one point. -/
def angle (p : Pt F) : F .f32 := angleV (fun _ => p 0) (fun _ => p 1) (ix1 (0 : Fin 16))

/-- The four rows of a point. -/
def rows : Fin 4 → Pt F → F .f32 := ![rho, angle, height, fun p => p 3]

/-- One lane of the distance is the distance of its point, -/
theorem rhoV_apply (x y : Vec F S1x16 .f32) (p : Pt F) (j : Fin 16) (hx : shapeCast S16 x shapeCasts_S1x16_S16 (ix1 j) = p 0)
    (hy : shapeCast S16 y shapeCasts_S1x16_S16 (ix1 j) = p 1) : k0_pay5 x y (ix1 j) = rho p := by
  unfold rho; rw [← hx, ← hy]; rfl

/-- and one lane of the angle its angle. -/
theorem angleV_apply (x y : Vec F S1x16 .f32) (p : Pt F) (j : Fin 16) (hx : shapeCast S16 x shapeCasts_S1x16_S16 (ix1 j) = p 0)
    (hy : shapeCast S16 y shapeCasts_S1x16_S16 (ix1 j) = p 1) : angleV x y (ix1 j) = angle p := by
  unfold angle angleV k0_pay12 k0_pay11 k0_pay10 k0_pay9 k0_pay8 k0_pay7 k0_pay6 k0_pay2 k0_pay1
  simp only [addf, mulf, subf, divf, select, cmpf, broadcast, maximumf, minimumf, absf, hx, hy]
  rfl

/-! ## One trip -/

/-- One group of sixteen points: the four features loaded, the four rows stored. -/
def trip {c : Fin τ.nSC} {s : Fin τ.nSub} (arg4 : Memref sig .scVector .vmem S16x1024 .f32) (arg5 : Memref sig .scVector .vmem S4x4x1024 .f32)
    (f : Fin 4 → Fin 2 → Nat) (hf : ∀ r a, f r a + S1x16.size a ≤ S16x1024.size a)
    (o : Fin 4 → Fin 3 → Nat) (ho : ∀ r a, o r a + S1x1x16.size a ≤ S4x4x1024.size a) :
    Prog (TpuEff nD τ sig (Elt F) Λ₀ (.scVector c s)) Unit := do
  let x : Vec F S1x16 .f32 ← Prog.lift (.load arg4 (Rect.unit (s := S16x1024) (f 0) S1x16.size (hf 0)).toLoadRect (View.loadsAt_vmem h_S1x16))
  let y : Vec F S1x16 .f32 ← Prog.lift (.load arg4 (Rect.unit (s := S16x1024) (f 1) S1x16.size (hf 1)).toLoadRect (View.loadsAt_vmem h_S1x16))
  let z : Vec F S1x16 .f32 ← Prog.lift (.load arg4 (Rect.unit (s := S16x1024) (f 2) S1x16.size (hf 2)).toLoadRect (View.loadsAt_vmem h_S1x16))
  let w : Vec F S1x16 .f32 ← Prog.lift (.load arg4 (Rect.unit (s := S16x1024) (f 3) S1x16.size (hf 3)).toLoadRect (View.loadsAt_vmem h_S1x16))
  let _ : Vec F S1x1x16 .f32 ← Prog.lift (.load arg5 (Rect.unit (s := S4x4x1024) (o 0) S1x1x16.size (ho 0)).toLoadRect (View.loadsAt_vmem h_S1x1x16))
  Prog.lift (.store arg5 (Rect.unit (s := S4x4x1024) (o 0) S1x1x16.size (ho 0)) (shapeCast S1x1x16 (k0_pay5 x y) shapeCasts_S16_S1x1x16) Finset.univ (View.stores_vmem_bits_univ h_S1x1x16 rfl) (.inl rfl))
  let _ : Vec F S1x1x16 .f32 ← Prog.lift (.load arg5 (Rect.unit (s := S4x4x1024) (o 1) S1x1x16.size (ho 1)).toLoadRect (View.loadsAt_vmem h_S1x1x16))
  Prog.lift (.store arg5 (Rect.unit (s := S4x4x1024) (o 1) S1x1x16.size (ho 1)) (shapeCast S1x1x16 (angleV x y) shapeCasts_S16_S1x1x16) Finset.univ (View.stores_vmem_bits_univ h_S1x1x16 rfl) (.inl rfl))
  let _ : Vec F S1x1x16 .f32 ← Prog.lift (.load arg5 (Rect.unit (s := S4x4x1024) (o 2) S1x1x16.size (ho 2)).toLoadRect (View.loadsAt_vmem h_S1x1x16))
  Prog.lift (.store arg5 (Rect.unit (s := S4x4x1024) (o 2) S1x1x16.size (ho 2)) (shapeCast S1x1x16 (k0_pay3 z) shapeCasts_S16_S1x1x16) Finset.univ (View.stores_vmem_bits_univ h_S1x1x16 rfl) (.inl rfl))
  let _ : Vec F S1x1x16 .f32 ← Prog.lift (.load arg5 (Rect.unit (s := S4x4x1024) (o 3) S1x1x16.size (ho 3)).toLoadRect (View.loadsAt_vmem h_S1x1x16))
  Prog.lift (.store arg5 (Rect.unit (s := S4x4x1024) (o 3) S1x1x16.size (ho 3)) (shapeCast S1x1x16 (k0_pay4 w) shapeCasts_S16_S1x1x16) Finset.univ (View.stores_vmem_bits_univ h_S1x1x16 rfl) (.inl rfl))
  pure ⟨⟩

/-- The staged rows after `k` groups of cloud `b`: finished up to column `16 * k`, the rest as they were. -/
def stage (X : S16x1024.Idx → F .f32) (b k : Nat) (g : S4x4x1024.Idx → F .f32) : S4x4x1024.Idx → F .f32 :=
  fun y => if (y 0).val = b ∧ (y 2).val < 16 * k then stacked rows X y else g y

/-! ## What a trip loads and stores -/

section Group

variable (X : S16x1024.Idx → F .f32) (b k : Nat) (hb : b < 4) (hk : k < 64)

/-- Point `j` of group `k` of cloud `b`. -/
def point (j : Fin 16) : Pt F := column X ⟨b, hb⟩ ⟨16 * k + j.val, by omega⟩

/-- The sixteen values of feature `r` of the group, as they are loaded. -/
theorem load_feature (r : Fin 4) (f : Fin 2 → Nat) (hf : ∀ a, f a + S1x16.size a ≤ S16x1024.size a) (hfe : f = ![4 * r.val + b, 16 * k])
    (h : S1x16.ShapeCasts S16) (j : Fin 16) :
    shapeCast S16 (View.readAt (Elt F) (sI).view (Rect.unit (s := S16x1024) f S1x16.size hf).toLoadRect X) h (ix1 j)
      = point X b k hb hk j r := by
  subst hfe
  refine (shapeCast_apply _ _ _ (ix2 (0 : Fin 1) j) ?_).trans ?_
  · rw [Shape.rowMajor_val_one, Shape.rowMajor_val_two]; show 0 * 16 + j.val = j.val; omega
  · refine congrArg X (Shape.idx_ext₂ ?_ ?_)
    · show 4 * r.val + b + 1 * 0 = 4 * r.val + b; omega
    · show 16 * k + 1 * j.val = 16 * k + j.val; omega

/-- Row `r` of the group, stored in its place, is a piece of the finished rows. -/
theorem store_row (r : Fin 4) (o : Fin 3 → Nat) (ho : ∀ a, o a + S1x1x16.size a ≤ S4x4x1024.size a) (hoe : o = ![b, r.val, 16 * k])
    (v : Vec F S16 .f32) (hv : ∀ j : Fin 16, v (ix1 j) = rows r (point X b k hb hk j)) (x : S1x1x16.Idx) :
    shapeCast S1x1x16 v shapeCasts_S16_S1x1x16 x = stacked rows X ((Rect.unit (s := S4x4x1024) o S1x1x16.size ho).emb x) := by
  subst hoe
  have h0 : (x 0).val < 1 := (x 0).isLt
  have h1 : (x 1).val < 1 := (x 1).isLt
  refine (shapeCast_apply _ _ _ (ix1 (x 2 : Fin 16)) ?_).trans ((hv (x 2)).trans ?_)
  · rw [Shape.rowMajor_val_one, Shape.rowMajor_val_three]
    show (x 2).val = ((x 0).val * 1 + (x 1).val) * 16 + (x 2).val; omega
  · refine congrArg₂ (fun (q : Fin 4) (p : Pt F) => rows q p) (Fin.ext ?_) (congrArg₂ (column X) (Fin.ext ?_) (Fin.ext ?_))
    · show r.val = r.val + 1 * (x 1).val; omega
    · show b = b + 1 * (x 0).val; omega
    · show 16 * k + (x 2).val = 16 * k + 1 * (x 2).val; omega

end Group

/-- A view written with pieces of one function `G` that cover exactly the places in `P` reads `G` there and what it
    read before elsewhere. -/
theorem read_patch {κ : Kind} {sp : Space} {s : Shape} {e : EltTy} (v : View sig κ sp s e) (f : v.ty.Contents (Elt F))
    (L : List (View.Piece (Elt F) s e)) (G : s.Idx → Elt F e) (hL : ∀ p ∈ L, ∀ x : p.1.shape.Idx, p.2 x = G (p.1.emb x))
    (P : s.Idx → Prop) [DecidablePred P] (hP : ∀ y, (∃ p ∈ L, y ∈ p.1.set) ↔ P y) :
    v.read (Elt F) (v.writes (Elt F) f L) = fun y => if P y then G y else v.read (Elt F) f y := by
  funext y
  by_cases hy : P y
  · exact (View.read_writes_apply_of_pieces v f G L hL y ((hP y).2 hy)).trans (if_pos hy).symm
  · exact (View.read_writes_apply_of_forall_not_mem v f y L fun p hp hm => hy ((hP y).1 ⟨p, hp, hm⟩)).trans (if_neg hy).symm

/-- A trip turns the staged rows after `k` groups into those after `k + 1`. -/
theorem trip_run (d : Dev nD) (c : Fin τ.nSC) (s : Fin τ.nSub) (E : Set ℕ) (b k : Nat) (hb : b < 4) (hk : k < 64)
    (f : Fin 4 → Fin 2 → Nat) (hf : ∀ r a, f r a + S1x16.size a ≤ S16x1024.size a) (hfe : ∀ r, f r = ![4 * r.val + b, 16 * k])
    (o : Fin 4 → Fin 3 → Nat) (ho : ∀ r a, o r a + S1x1x16.size a ≤ S4x4x1024.size a) (hoe : ∀ r, o r = ![b, r.val, 16 * k])
    (X : S16x1024.Idx → F .f32) (g : S4x4x1024.Idx → F .f32) :
    iprop(((sI).view.loc (V d c s) ↦{fullShare} X) ∗ ((sO).view.loc (V d c s) ↦{fullShare} stage X b k g))
      ⊢ (wp frame (wpE (defs₀ (F := F)) Variants.none (V d c s) none) E (trip sI sO f hf o ho)
          fun _ => iprop(((sI).view.loc (V d c s) ↦{fullShare} X) ∗ ((sO).view.loc (V d c s) ↦{fullShare} stage X b (k + 1) g)) : sProp 𝕄) := by
  unfold trip
  iintro ⟨Hi, Ho⟩
  sl_exec
  sl_step
  isplitl [Hi]; · iexact Hi
  iapply (Entails.of_eq (congrArg (fun w : S4x4x1024.Idx → F .f32 => ((sO).view.loc (V d c s) ↦{fullShare} w : sProp 𝕄)) ?_)) $$ Ho
  have ld := fun r => load_feature X b k hb hk r (f r) (hf r) (hfe r) shapeCasts_S1x16_S16
  have sr := fun r v hv => store_row X b k hb hk r (o r) (ho r) (hoe r) v hv
  have mem : ∀ (r : Fin 4) (y : S4x4x1024.Idx), y ∈ (Rect.unit (s := S4x4x1024) (o r) S1x1x16.size (ho r)).set
      ↔ (y 0).val = b ∧ (y 1).val = r.val ∧ 16 * k ≤ (y 2).val ∧ (y 2).val < 16 * k + 16 := fun r y => by
    rw [Rect.mem_set_unit, hoe r]
    constructor
    · intro h
      have h0 := h 0; have h1 := h 1; have h2 := h 2
      change b ≤ (y 0).val ∧ (y 0).val < b + 1 at h0
      change r.val ≤ (y 1).val ∧ (y 1).val < r.val + 1 at h1
      change 16 * k ≤ (y 2).val ∧ (y 2).val < 16 * k + 16 at h2
      omega
    · rintro ⟨h0, h1, h2, h3⟩ a
      match a with
      | 0 => show b ≤ (y 0).val ∧ (y 0).val < b + 1; omega
      | 1 => show r.val ≤ (y 1).val ∧ (y 1).val < r.val + 1; omega
      | 2 => show 16 * k ≤ (y 2).val ∧ (y 2).val < 16 * k + 16; omega
  refine (View.read_whole (Val := Elt F) cc0_scratch1 _).symm.trans ?_
  refine (read_patch (F := F) (View.whole cc0_scratch1) (stage X b k g) _ (stacked rows X) ?_ (fun y => (y 0).val = b ∧ 16 * k ≤ (y 2).val ∧ (y 2).val < 16 * k + 16) fun y => ?_).trans ?_
  · simp only [List.forall_mem_cons]
    refine ⟨sr 3 _ fun j => ?_, sr 2 _ fun j => ?_, sr 1 _ fun j => ?_, sr 0 _ fun j => ?_, by simp⟩
    · exact ld 3 j
    · exact ld 2 j
    · exact angleV_apply _ _ _ _ (ld 0 j) (ld 1 j)
    · exact rhoV_apply _ _ _ _ (ld 0 j) (ld 1 j)
  · have hy1 : (y 1).val < 4 := (y 1).isLt
    simp only [List.mem_cons, exists_eq_or_imp, mem]
    simp only [List.not_mem_nil, false_and, exists_false, or_false]
    show (_ ∧ (y 1).val = 3 ∧ _) ∨ (_ ∧ (y 1).val = 2 ∧ _) ∨ (_ ∧ (y 1).val = 1 ∧ _) ∨ (_ ∧ (y 1).val = 0 ∧ _) ↔ _
    omega
  · funext y
    show (if _ then _ else stage X b k g y) = stage X b (k + 1) g y
    unfold stage
    split_ifs <;> first | rfl | (exfalso; omega)

/-! ## A loop -/

/-- The loads of a trip lie inside the first scratch -/
theorem inb_feature {b k : Nat} (hb : b < 4) (hk : k < 64) {f : Fin 4 → Fin 2 → Nat} (hfe : ∀ r, f r = ![4 * r.val + b, 16 * k]) (r : Fin 4) (a : Fin 2) :
    f r a + S1x16.size a ≤ S16x1024.size a := by
  rw [hfe r]
  match a with
  | 0 => show 4 * r.val + b + 1 ≤ 16; omega
  | 1 => show 16 * k + 16 ≤ 1024; omega

/-- and the stores inside the second. -/
theorem inb_row {b k : Nat} (hb : b < 4) (hk : k < 64) {o : Fin 4 → Fin 3 → Nat} (hoe : ∀ r, o r = ![b, r.val, 16 * k]) (r : Fin 4) (a : Fin 3) :
    o r a + S1x1x16.size a ≤ S4x4x1024.size a := by
  rw [hoe r]
  match a with
  | 0 => show b + 1 ≤ 4; omega
  | 1 => show r.val + 1 ≤ 4; omega
  | 2 => show 16 * k + 16 ≤ 1024; omega

/-- A loop whose trips are the groups of cloud `b`, in order, finishes the cloud's rows as far as it goes. -/
theorem loop_run (d : Dev nD) (c : Fin τ.nSC) (s : Fin τ.nSub) (E : Set ℕ) (b : Nat) (hb : b < 4) (L : Scf.Loop 32) (hok : L.OK) (hL : L.trips ≤ 64)
    (f : Fin L.trips → Fin 4 → Fin 2 → Nat) (hfe : ∀ k r, f k r = ![4 * r.val + b, 16 * k.val])
    (o : Fin L.trips → Fin 4 → Fin 3 → Nat) (hoe : ∀ k r, o k r = ![b, r.val, 16 * k.val])
    (body : Fin L.trips → Unit → Prog (TpuEff nD τ sig (Elt F) Λ₀ (.scVector c s)) Unit)
    (hbody : ∀ k, body k ⟨⟩ = trip sI sO (f k) (inb_feature hb (k.isLt.trans_le hL) (hfe k)) (o k) (inb_row hb (k.isLt.trans_le hL) (hoe k)))
    (X : S16x1024.Idx → F .f32) (g : S4x4x1024.Idx → F .f32) {β : Type} {kk : Unit → Prog (TpuEff nD τ sig (Elt F) Λ₀ (.scVector c s)) β} {Q : β → sProp 𝕄} :
    iprop(((sI).view.loc (V d c s) ↦{fullShare} X) ∗ ((sO).view.loc (V d c s) ↦{fullShare} g))
      ⊢ iprop((iprop(((sI).view.loc (V d c s) ↦{fullShare} X) ∗ ((sO).view.loc (V d c s) ↦{fullShare} stage X b L.trips g))
            -∗ wp frame (wpE (defs₀ (F := F)) Variants.none (V d c s) none) E (kk ⟨⟩) Q)
          -∗ wp frame (wpE (defs₀ (F := F)) Variants.none (V d c s) none) E (Scf.Loop.for L hok ⟨⟩ body >>= kk) Q) := by
  have h0 : stage X b 0 g = g := funext fun y => if_neg fun h => Nat.not_lt_zero _ h.2
  have hrun := Scf.wp_for_bind frame (wpE (defs₀ (F := F)) Variants.none (V d c s) none) E L.lb L.ub L.st hok ⟨⟩ body
    (fun k _ => (iprop(((sI).view.loc (V d c s) ↦{fullShare} X) ∗ ((sO).view.loc (V d c s) ↦{fullShare} stage X b k g)) : sProp 𝕄))
    (fun k acc => by
      cases acc
      rw [hbody k]
      exact trip_run d c s E b k.val hb (k.isLt.trans_le hL) _ _ (hfe k) _ _ (hoe k) X g) (kk := kk) (Q := Q)
  rw [h0] at hrun
  refine hrun.trans ?_
  iintro H HK
  iapply H
  iintro %acc HI
  iapply HK
  iexact HI

end Cert.Points.Sc
end
-- ==== Proof.Tile.lean ====
/-
  The SparseCore call on one tile.
-/
module

public import proofs.«01_k».proof.Proof.Lanes

@[expose] public section

set_option maxRecDepth 16384

noncomputable section

namespace Cert.Points.Sc

open Cert.TilesIdeal Cert.TilesIdeal.Gen
open Idealize.ShloMosaic Idealize.ShloMosaic.ValueIdx Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "iV" => (Memref.whole Cert.TilesIdeal.main_v2_scv : Memref Cert.TilesIdeal.sig Kind.scVector Space.hbm Cert.TilesIdeal.S16x120064 EltTy.f32)
local notation "oV" => (Memref.whole Cert.TilesIdeal.main_v3_scv : Memref Cert.TilesIdeal.sig Kind.scVector Space.hbm Cert.TilesIdeal.S4x4x120064 EltTy.f32)
local notation "sI" => (Memref.whole Cert.TilesIdeal.cc0_scratch0 : Memref Cert.TilesIdeal.sig Kind.scVector Space.vmem Cert.TilesIdeal.S16x1024 EltTy.f32)
local notation "sO" => (Memref.whole Cert.TilesIdeal.cc0_scratch1 : Memref Cert.TilesIdeal.sig Kind.scVector Space.vmem Cert.TilesIdeal.S4x4x1024 EltTy.f32)

/-- The padded table in memory -/
abbrev iLoc (d : Dev nD) : Loc nD τ sig := (SparseCore.T d).loc main_v2
/-- and the rows in memory. -/
abbrev oLoc (d : Dev nD) : Loc nD τ sig := (SparseCore.T d).loc main_v3

/-- The core of a tile -/
abbrev cV (L : grid0.Coords) : Fin τ.nSC := (L 0).castLE hcore0
/-- and its place there. -/
abbrev jV (L : grid0.Coords) : Fin τ.nSub := (L 1).castLE hsub0

/-! ## Which tile works on which column -/

/-- The number of a tile. -/
def tileNo (L : grid0.Coords) : Nat := 2 * (L 1).val + (L 0).val

/-- The tile that works on column `n`: the chunks of 1024 columns go round, the last 256 columns to the last tile. -/
def owner (n : Nat) : Nat := if n < 119808 then n / 1024 % 32 else 31

/-- A tile makes four trips. -/
theorem trips_eq : k0_t1_loop.trips = 4 := by decide

/-- On trip `t` a tile has a chunk left exactly when its number among all chunks is below 117; -/
theorem works_iff : ∀ (L : grid0.Coords) (t : Fin k0_t1_loop.trips), k0_cond1 L t = 1#1 ↔ 32 * t.val + tileNo L < 117 := by
  decide +kernel

/-- the last 256 columns are the last tile's. -/
theorem last_iff : ∀ L : grid0.Coords, k0_cond2 L = 1#1 ↔ tileNo L = 31 := by
  decide +kernel

/-- There are thirty-two tiles. -/
theorem tileNo_lt (L : grid0.Coords) : tileNo L < 32 := by
  have h0 : (L 0).val < 2 := (L 0).isLt
  have h1 : (L 1).val < 16 := (L 1).isLt
  unfold tileNo; omega

/-- The places of the input and of the output that other tiles work on. -/
def iOthers (w : Nat) : Finset S16x120064.Idx := Finset.univ.filter fun y => owner (y 1).val ≠ w
/-- The columns of the other tiles in the rows. -/
def oOthers (w : Nat) : Finset S4x4x120064.Idx := Finset.univ.filter fun y => owner (y 2).val ≠ w

/-- The columns a tile reads for itself are none of the others'. -/
theorem iWin_disjoint (w n m : Nat) (size : Fin 2 → Nat) (hsize : size = ![16, m]) (off : Fin 2 → Nat) (hoff : off = ![0, n])
    (inb : ∀ a, off a + size a ≤ S16x120064.size a) (hw : ∀ j, n ≤ j → j < n + m → owner j = w) :
    Disjoint ((iV).slice (Rect.unit (s := S16x120064) off size inb) (fun _ => rfl)).view.set (iOthers w) := by
  rw [Finset.disjoint_left]
  intro y hy hy'
  have hy : y ∈ (Rect.unit (s := S16x120064) off size inb).set := by
    have h : ((iV).slice (Rect.unit (s := S16x120064) off size inb) (fun _ => rfl)).view.set = (Rect.unit (s := S16x120064) off size inb).set := by
      show ((View.whole (main_v2_scv : Ref sig .scVector)).slice _).set = _
      rw [View.set_slice]; exact Finset.map_refl
    rw [← h]; exact hy
  have h1 := (Rect.mem_set_unit.mp hy) 1
  subst hoff hsize
  exact (Finset.mem_filter.mp hy').2 (hw _ h1.1 h1.2)

/-- Nor are the columns it writes. -/
theorem oWin_disjoint (w n m b : Nat) (size : Fin 3 → Nat) (hsize : size = ![1, 4, m]) (off : Fin 3 → Nat) (hoff : off = ![b, 0, n])
    (inb : ∀ a, off a + size a ≤ S4x4x120064.size a) (t : Shape) (sq : (⟨3, size⟩ : Shape).Squeezes t) (hw : ∀ j, n ≤ j → j < n + m → owner j = w) :
    Disjoint (((oV).slice (Rect.unit (s := S4x4x120064) off size inb) (fun _ => rfl)).squeeze t sq).view.set (oOthers w) := by
  rw [Finset.disjoint_left]
  intro y hy hy'
  have hy : y ∈ (Rect.unit (s := S4x4x120064) off size inb).set := by
    have h : (((oV).slice (Rect.unit (s := S4x4x120064) off size inb) (fun _ => rfl)).squeeze t sq).view.set = (Rect.unit (s := S4x4x120064) off size inb).set := by
      show (((View.whole (main_v3_scv : Ref sig .scVector)).slice (Rect.unit (s := S4x4x120064) off size inb)).reshape t sq.numel_eq).set = _
      rw [View.set_reshape, View.set_slice]; exact Finset.map_refl
    rw [← h]; exact hy
  have h1 := (Rect.mem_set_unit.mp hy) 2
  subst hoff hsize
  exact (Finset.mem_filter.mp hy').2 (hw _ h1.1 h1.2)

/-- Two places of the rows are one if their numbers agree. -/
theorem at_ext (y z : S4x4x120064.Idx) (h0 : (y 0).val = (z 0).val) (h1 : (y 1).val = (z 1).val) (h2 : (y 2).val = (z 2).val) : y = z :=
  funext fun a => by
    match a with
    | 0 => exact Fin.ext h0
    | 1 => exact Fin.ext h1
    | 2 => exact Fin.ext h2

/-! ## What a fetch brings and a write-out leaves -/

/-- The scratch holds the columns from `n` of the input, the first `m` of its own. -/
def Fetched (p : S16x120064.Idx → F .f32) (n m : Nat) (X : S16x1024.Idx → F .f32) : Prop :=
  ∀ (y : S16x1024.Idx) (z : S16x120064.Idx), (z 0).val = (y 0).val → (z 1).val = n + (y 1).val → (y 1).val < m → X y = p z

/-- The second scratch holds the finished rows of cloud `b` for these columns. -/
def Staged (p : S16x120064.Idx → F .f32) (n m b : Nat) (g : S4x4x1024.Idx → F .f32) : Prop :=
  ∀ (y : S4x4x1024.Idx) (z : S4x4x120064.Idx), (y 0).val = b → (z 0).val = (y 0).val → (z 1).val = (y 1).val → (z 2).val = n + (y 2).val →
    (y 2).val < m → g y = stacked rows p z

/-- The output after the finished rows of cloud `b` for the `m` columns from `n` went out. -/
def sent (p : S16x120064.Idx → F .f32) (n m b : Nat) (q : S4x4x120064.Idx → F .f32) : S4x4x120064.Idx → F .f32 :=
  fun z => if (z 0).val = b ∧ n ≤ (z 2).val ∧ (z 2).val < n + m then stacked rows p z else q z

/-- The same after all four clouds. -/
def sentAll (p : S16x120064.Idx → F .f32) (n m : Nat) (q : S4x4x120064.Idx → F .f32) : S4x4x120064.Idx → F .f32 :=
  sent p n m 3 (sent p n m 2 (sent p n m 1 (sent p n m 0 q)))

/-- What went out, place by place. -/
theorem sentAll_apply (p : S16x120064.Idx → F .f32) (n m : Nat) (q : S4x4x120064.Idx → F .f32) (z : S4x4x120064.Idx) :
    sentAll p n m q z = if n ≤ (z 2).val ∧ (z 2).val < n + m then stacked rows p z else q z := by
  have h : (z 0).val < 4 := (z 0).isLt
  unfold sentAll sent
  by_cases hz : n ≤ (z 2).val ∧ (z 2).val < n + m
  · rw [if_pos hz]
    obtain h | h | h | h : (z 0).val = 0 ∨ (z 0).val = 1 ∨ (z 0).val = 2 ∨ (z 0).val = 3 := by omega
    all_goals simp [h, hz]
  · simp [hz]

omit [FloatOps F] in
/-- A copy of columns into the first scratch stages them. -/
theorem fetched (p : S16x120064.Idx → F .f32) (n m : Nat) (X : S16x1024.Idx → F .f32) (size : Fin 2 → Nat) (hsize : size = ![16, m])
    (off : Fin 2 → Nat) (hoff : off = ![0, n]) (inb : ∀ a, off a + size a ≤ S16x120064.size a) (inb' : ∀ a, (![0, 0] : Fin 2 → Nat) a + size a ≤ S16x1024.size a) :
    Fetched p n m ((sI).view.writes (Elt F) X [⟨Rect.unit (s := S16x1024) ![0, 0] size inb',
      ReadAs.same.apply (View.read (Elt F) ((iV).slice (Rect.unit (s := S16x120064) off size inb) (fun _ => rfl)).view p)⟩]) := by
  subst hoff hsize
  intro y z h0 h1 hm
  have hx : ∀ a, (y a).val < (![16, m] : Fin 2 → Nat) a := fun a => by
    match a with
    | 0 => exact (y 0).isLt
    | 1 => exact hm
  let x : (Rect.unit (s := S16x1024) ![0, 0] ![16, m] inb').shape.Idx := fun a => ⟨(y a).val, hx a⟩
  have hy : (Rect.unit (s := S16x1024) ![0, 0] ![16, m] inb').emb x = y := Shape.idx_ext₂ (by show 0 + 1 * (y 0).val = _; omega) (by show 0 + 1 * (y 1).val = _; omega)
  refine (congrFun (View.read_whole (Val := Elt F) cc0_scratch0 _).symm y).trans ?_
  rw [← hy]
  refine (View.read_writes_cons_emb (Val := Elt F) (View.whole cc0_scratch0) X _ _ [] x).trans ?_
  refine congrArg p (Shape.idx_ext₂ ?_ ?_)
  · show 0 + 1 * (y 0).val = _; omega
  · show n + 1 * (y 1).val = _; omega

/-- Staging all groups of a cloud finishes its rows. -/
theorem staged (p : S16x120064.Idx → F .f32) (n m b k : Nat) (X : S16x1024.Idx → F .f32) (hX : Fetched p n m X) (hk : m = 16 * k)
    (g : S4x4x1024.Idx → F .f32) : Staged p n m b (stage X b k g) := by
  intro y z hb h0 h1 h2 hm
  refine (if_pos ⟨hb, hk ▸ hm⟩).trans (congrArg₂ (fun (q : Fin 4) (u : Pt F) => rows q u) (Fin.ext h1.symm) (funext fun r => hX _ _ ?_ h2 hm))
  show 4 * r.val + (z 0).val = 4 * r.val + (y 0).val
  omega

/-- Sending the finished rows of a cloud writes just these. -/
theorem sent_eq (p : S16x120064.Idx → F .f32) (n m b : Nat) (g : S4x4x1024.Idx → F .f32) (hg : Staged p n m b g) (q : S4x4x120064.Idx → F .f32)
    (size : Fin 3 → Nat) (hsize : size = ![1, 4, m]) (off : Fin 3 → Nat) (hoff : off = ![b, 0, n]) (inb : ∀ a, off a + size a ≤ S4x4x120064.size a)
    (off' : Fin 3 → Nat) (hoff' : off' = ![b, 0, 0]) (inb' : ∀ a, off' a + size a ≤ S4x4x1024.size a) (t : Shape) (sq : (⟨3, size⟩ : Shape).Squeezes t) :
    View.write (Elt F) (((oV).slice (Rect.unit (s := S4x4x120064) off size inb) (fun _ => rfl)).squeeze t sq).view q
      (ReadAs.same.apply (View.read (Elt F) (((sO).slice (Rect.unit (s := S4x4x1024) off' size inb') (fun _ => rfl)).squeeze t sq).view g)) Finset.univ
      = sent p n m b q := by
  subst hoff hoff' hsize
  funext z
  by_cases hz : (z 0).val = b ∧ n ≤ (z 2).val ∧ (z 2).val < n + m
  · obtain ⟨h0, h1, h2⟩ := hz
    have hx : ∀ a, (z a).val - (![b, 0, n] : Fin 3 → Nat) a < (![1, 4, m] : Fin 3 → Nat) a := fun a => by
      match a with
      | 0 => show (z 0).val - b < 1; omega
      | 1 => have : (z 1).val < 4 := (z 1).isLt
             show (z 1).val - 0 < 4; omega
      | 2 => show (z 2).val - n < m; omega
    let w : (⟨3, ![1, 4, m]⟩ : Shape).Idx := fun a => ⟨_, hx a⟩
    let x : t.Idx := (Shape.reshapeEquiv sq.numel_eq).symm w
    have hx' : Shape.reshapeEquiv sq.numel_eq x = w := Equiv.apply_symm_apply _ _
    have he : (((oV).slice (Rect.unit (s := S4x4x120064) ![b, 0, n] ![1, 4, m] inb) (fun _ => rfl)).squeeze t sq).view.emb x = z := by
      show (Rect.unit (s := S4x4x120064) ![b, 0, n] ![1, 4, m] inb).emb (Shape.reshapeEquiv sq.numel_eq x) = z
      rw [hx']
      refine at_ext _ _ ?_ ?_ ?_
      · show b + 1 * ((z 0).val - b) = _; omega
      · show 0 + 1 * ((z 1).val - 0) = _; omega
      · show n + 1 * ((z 2).val - n) = _; omega
    rw [← he, View.write_emb_of_mem _ _ (Finset.mem_univ x), he]
    refine (?_ : g ((Rect.unit (s := S4x4x1024) ![b, 0, 0] ![1, 4, m] inb').emb (Shape.reshapeEquiv sq.numel_eq x)) = _).trans (if_pos ⟨h0, h1, h2⟩).symm
    rw [hx']
    refine hg _ z ?_ ?_ ?_ ?_ ?_
    · show b + 1 * ((z 0).val - b) = _; omega
    · show _ = b + 1 * ((z 0).val - b); omega
    · show _ = 0 + 1 * ((z 1).val - 0); omega
    · show _ = n + (0 + 1 * ((z 2).val - n)); omega
    · show 0 + 1 * ((z 2).val - n) < m; omega
  · refine (View.write_of_not_mem _ _ _ ?_).trans (if_neg hz).symm
    intro hm
    obtain ⟨x, -, he⟩ := Finset.mem_map.mp hm
    apply hz
    subst he
    let w := Shape.reshapeEquiv sq.numel_eq x
    have h0 : (w 0).val < 1 := (w 0).isLt
    have h2 : (w 2).val < m := (w 2).isLt
    refine ⟨?_, ?_, ?_⟩
    · show b + 1 * (w 0).val = b; omega
    · show n ≤ n + 1 * (w 2).val; omega
    · show n + 1 * (w 2).val < n + m; omega

/-! ## One chunk -/

section Chunk

variable (d : Dev nD) (L : grid0.Coords)

/-- The first column of the chunk of trip `t`. -/
abbrev first (L : grid0.Coords) (t : Fin k0_t1_loop.trips) : Nat := 2048 * (L 1).val + 1024 * (L 0).val + 32768 * t.val

/-- A loop of a cloud leaves its finished rows in the second scratch. -/
theorem cloud_run (b : Nat) (hb : b < 4) (N : Scf.Loop 32) (hok : N.OK) (hN : N.trips ≤ 64)
    (f : Fin N.trips → Fin 4 → Fin 2 → Nat) (hf : ∀ k r, f k r = ![4 * r.val + b, 16 * k.val])
    (o : Fin N.trips → Fin 4 → Fin 3 → Nat) (ho : ∀ k r, o k r = ![b, r.val, 16 * k.val])
    (body : Fin N.trips → Unit → Prog (TpuEff nD τ sig (Elt F) Λ₀ (.scVector (cV L) (jV L))) Unit)
    (hbody : ∀ k, body k ⟨⟩ = trip sI sO (f k) (inb_feature hb (k.isLt.trans_le hN) (hf k)) (o k) (inb_row hb (k.isLt.trans_le hN) (ho k)))
    (p : S16x120064.Idx → F .f32) (n m : Nat) (hm : m = 16 * N.trips) (X : S16x1024.Idx → F .f32) (hX : Fetched p n m X) (g : S4x4x1024.Idx → F .f32)
    {β : Type} {kk : Unit → Prog (TpuEff nD τ sig (Elt F) Λ₀ (.scVector (cV L) (jV L))) β} {Q : β → sProp 𝕄} :
    iprop(((sI).view.loc (V d (cV L) (jV L)) ↦{fullShare} X) ∗ ((sO).view.loc (V d (cV L) (jV L)) ↦{fullShare} g))
      ⊢ iprop(((∃ g' : S4x4x1024.Idx → F .f32, ⌜Staged p n m b g'⌝ ∗ ((sI).view.loc (V d (cV L) (jV L)) ↦{fullShare} X) ∗ ((sO).view.loc (V d (cV L) (jV L)) ↦{fullShare} g'))
            -∗ wp frame (wpE (defs₀ (F := F)) Variants.none (V d (cV L) (jV L)) none) Set.univ (kk ⟨⟩) Q)
          -∗ wp frame (wpE (defs₀ (F := F)) Variants.none (V d (cV L) (jV L)) none) Set.univ (Scf.Loop.for N hok ⟨⟩ body >>= kk) Q) := by
  iintro H HK
  iapply (loop_run d (cV L) (jV L) Set.univ b hb N hok hN f hf o ho body hbody X g) $$ H
  iintro ⟨HI, HO⟩
  iapply HK
  iexists _
  isplitr
  · ipureintro; exact staged p n m b N.trips X hX hm g
  isplitl [HI] <;> iassumption

omit [FloatOps F] in
/-- After the fetch the first scratch holds the columns. -/
theorem fetched_held (p : S16x120064.Idx → F .f32) (n m : Nat) (X : S16x1024.Idx → F .f32) (hX : Fetched p n m X) :
    ((sI).view.loc (V d (cV L) (jV L)) ↦{fullShare} X : sProp 𝕄)
      ⊢ iprop(∃ X' : S16x1024.Idx → F .f32, ⌜Fetched p n m X'⌝ ∗ ((sI).view.loc (V d (cV L) (jV L)) ↦{fullShare} X')) := by
  iintro H
  iexists _
  isplitr
  · ipureintro; exact hX
  iexact H

/-- The same of the buffer as it is held. -/
theorem sent_held (S : Finset S4x4x120064.Idx) (p : S16x120064.Idx → F .f32) (n m b : Nat) (g : S4x4x1024.Idx → F .f32) (hg : Staged p n m b g) (q : S4x4x120064.Idx → F .f32)
    (size : Fin 3 → Nat) (hsize : size = ![1, 4, m]) (off : Fin 3 → Nat) (hoff : off = ![b, 0, n]) (inb : ∀ a, off a + size a ≤ S4x4x120064.size a)
    (off' : Fin 3 → Nat) (hoff' : off' = ![b, 0, 0]) (inb' : ∀ a, off' a + size a ≤ S4x4x1024.size a) (t : Shape) (sq : (⟨3, size⟩ : Shape).Squeezes t) :
    ((oV).view.loc (V d (cV L) (jV L)) ↦[S]{fullShare} View.write (Elt F) (((oV).slice (Rect.unit (s := S4x4x120064) off size inb) (fun _ => rfl)).squeeze t sq).view q
      (ReadAs.same.apply (View.read (Elt F) (((sO).slice (Rect.unit (s := S4x4x1024) off' size inb') (fun _ => rfl)).squeeze t sq).view g)) Finset.univ : sProp 𝕄)
      ⊢ ((oV).view.loc (V d (cV L) (jV L)) ↦[S]{fullShare} sent p n m b q : sProp 𝕄) := by
  rw [sent_eq p n m b g hg q size hsize off hoff inb off' hoff' inb' t sq]

/-- What a tile holds while it works: its columns of the input and of the output, its scratches, its semaphores at rest and what it owes. -/
def tileHeld (O : CellTallies nD τ sig (HIx 1)) (p : S16x120064.Idx → F .f32) (q : S4x4x120064.Idx → F .f32) : sProp 𝕄 :=
  iprop(Transfers.MayWaits (V d (cV L) (jV L)) (default : HIx 1) O
    ∗ ((iV).view.loc (V d (cV L) (jV L)) ↦[Finset.univ \ iOthers (tileNo L)]{fullShare} p) ∗ ((oV).view.loc (V d (cV L) (jV L)) ↦[Finset.univ \ oOthers (tileNo L)]{fullShare} q)
    ∗ (∃ X : S16x1024.Idx → F .f32, (sI).view.loc (V d (cV L) (jV L)) ↦{fullShare} X) ∗ (∃ g : S4x4x1024.Idx → F .f32, (sO).view.loc (V d (cV L) (jV L)) ↦{fullShare} g)
    ∗ semVal ((V d (cV L) (jV L), .dma cc0_scoped0.sem) : GSem nD τ sig) 0
    ∗ semVal ((V d (cV L) (jV L), .dma cc0_scoped1.sem) : GSem nD τ sig) 0
    ∗ semVal ((V d (cV L) (jV L), .dma cc0_scoped2.sem) : GSem nD τ sig) 0
    ∗ semVal ((V d (cV L) (jV L), .dma cc0_scoped3.sem) : GSem nD τ sig) 0
    ∗ semVal ((V d (cV L) (jV L), .dma cc0_scoped4.sem) : GSem nD τ sig) 0
    ∗ semVal ((V d (cV L) (jV L), .dma cc0_scoped5.sem) : GSem nD τ sig) 0
    ∗ semVal ((V d (cV L) (jV L), .dma cc0_scoped6.sem) : GSem nD τ sig) 0
    ∗ semVal ((V d (cV L) (jV L), .dma cc0_scoped7.sem) : GSem nD τ sig) 0
    ∗ semVal ((V d (cV L) (jV L), .dma cc0_scoped8.sem) : GSem nD τ sig) 0
    ∗ semVal ((V d (cV L) (jV L), .dma cc0_scoped9.sem) : GSem nD τ sig) 0
    ∗ ∃ W : Waits sig (HIx 1), owes (V d (cV L) (jV L)) O W)

/-- A trip with a chunk left sends that chunk's rows out. -/
theorem chunk_run (O : CellTallies nD τ sig (HIx 1)) (t : Fin k0_t1_loop.trips) (v : BitVec 32) (p : S16x120064.Idx → F .f32) (q : S4x4x120064.Idx → F .f32)
    (h : k0_cond1 L t = 1#1) :
    tileHeld d L O p q
      ⊢ (wp frame (wpE (defs₀ (F := F)) Variants.none (V d (cV L) (jV L)) none) Set.univ
          (k0_t1_body L iV (Memref.isWhole_whole _) oV (Memref.isWhole_whole _) sI (Memref.isWhole_whole _) sO (Memref.isWhole_whole _)
            cc0_scoped0 cc0_scoped1 cc0_scoped2 cc0_scoped3 cc0_scoped4 cc0_scoped5 cc0_scoped6 cc0_scoped7 cc0_scoped8 cc0_scoped9 v t ⟨⟩)
          fun _ => tileHeld d L O p (sentAll p (first L t) 1024 q) : sProp 𝕄) := by
  have hn := (works_iff L t).mp h
  have hw : ∀ j, first L t ≤ j → j < first L t + 1024 → owner j = tileNo L := fun j h1 h2 => by
    have := tileNo_lt L
    unfold tileNo at *; unfold owner first at *
    rw [if_pos (by omega)]; omega
  have hi := iWin_disjoint (tileNo L) _ 1024 S16x1024.size rfl (k0_off1 L t) (k0_off1_eq L t) (k0_off1_inb L t h) hw
  have ho0 := oWin_disjoint (tileNo L) _ 1024 0 S1x4x1024.size rfl (k0_off10 L t) (k0_off10_eq L t) (k0_off10_inb L t h) S4x1024 squeezes_S1x4x1024_S4x1024 hw
  have ho1 := oWin_disjoint (tileNo L) _ 1024 1 S1x4x1024.size rfl (k0_off19 L t) (k0_off19_eq L t) (k0_off19_inb L t h) S4x1024 squeezes_S1x4x1024_S4x1024 hw
  have ho2 := oWin_disjoint (tileNo L) _ 1024 2 S1x4x1024.size rfl (k0_off28 L t) (k0_off28_eq L t) (k0_off28_inb L t h) S4x1024 squeezes_S1x4x1024_S4x1024 hw
  have ho3 := oWin_disjoint (tileNo L) _ 1024 3 S1x4x1024.size rfl (k0_off37 L t) (k0_off37_eq L t) (k0_off37_inb L t h) S4x1024 squeezes_S1x4x1024_S4x1024 hw
  have hX : ∀ X, Fetched p (first L t) 1024 _ := fun X => fetched p (first L t) 1024 X S16x1024.size rfl (k0_off1 L t) (k0_off1_eq L t) (k0_off1_inb L t h) inb_S16x1024_S16x1024_0_0
  unfold k0_t1_body
  rw [dif_pos h]
  rw [k0_part9_eq_skeleton, k0_part10_eq_skeleton, k0_part11_eq_skeleton]
  unfold k0_part9_skel
  unfold tileHeld
  iintro ⟨Hmw, Hi, Ho, ⟨%X, HI⟩, ⟨%g, HO⟩, H0, H1, H2, H3, H4, H5, H6, H7, H8, H9, ⟨%W, Hw⟩⟩
  sl_exec (disch := first | exact View.amount_pos _ _ (show 0 < S16x1024.numel by decide) | exact View.amount_pos _ _ (show 0 < S4x1024.numel by decide))
  rw [bind_assoc]
  unfold chunk_run.sl.dma0
  ihave ⟨%X', %hX', HI⟩ := (fetched_held d L p _ 1024 _ (hX _)) $$ HI
  iapply (cloud_run d L 0 (by decide) k0_t2_loop (k0_t2_ok L t h) k0_t2_abs.2.1 (fun k => ![k0_off2 k, k0_off3 k, k0_off4 k, k0_off5 k])
    (fun k r => by fin_cases r; exacts [k0_off2_eq k, k0_off3_eq k, k0_off4_eq k, k0_off5_eq k])
    (fun k => ![k0_off6 k, k0_off7 k, k0_off8 k, k0_off9 k])
    (fun k r => by fin_cases r; exacts [k0_off6_eq k, k0_off7_eq k, k0_off8_eq k, k0_off9_eq k]) _ (fun k => rfl) p _ 1024 (by decide) X' hX' _) $$ [HI HO]
  · isplitl [HI] <;> iassumption
  iintro ⟨%g0, %hg0, HI, HO⟩
  sl_exec (disch := first | exact View.amount_pos _ _ (show 0 < S16x1024.numel by decide) | exact View.amount_pos _ _ (show 0 < S4x1024.numel by decide))
  unfold chunk_run.sl.Ho_w0 chunk_run.sl.dma0_1
  ihave Ho := (sent_held d L _ p _ 1024 0 g0 hg0 _ S1x4x1024.size rfl (k0_off10 L t) (k0_off10_eq L t) (k0_off10_inb L t h)
    ![0, 0, 0] rfl inb_S4x4x1024_S1x4x1024_0_0_0 S4x1024 squeezes_S1x4x1024_S4x1024) $$ Ho
  iapply (cloud_run d L 1 (by decide) k0_t3_loop (k0_t3_ok L t h) k0_t3_abs.2.1 (fun k => ![k0_off11 k, k0_off12 k, k0_off13 k, k0_off14 k])
    (fun k r => by fin_cases r; exacts [k0_off11_eq k, k0_off12_eq k, k0_off13_eq k, k0_off14_eq k])
    (fun k => ![k0_off15 k, k0_off16 k, k0_off17 k, k0_off18 k])
    (fun k r => by fin_cases r; exacts [k0_off15_eq k, k0_off16_eq k, k0_off17_eq k, k0_off18_eq k]) _ (fun k => rfl) p _ 1024 (by decide) X' hX' _) $$ [HI HO]
  · isplitl [HI] <;> iassumption
  iintro ⟨%g1, %hg1, HI, HO⟩
  sl_exec (disch := first | exact View.amount_pos _ _ (show 0 < S16x1024.numel by decide) | exact View.amount_pos _ _ (show 0 < S4x1024.numel by decide))
  unfold chunk_run.sl.Ho_w0_1 chunk_run.sl.dma0_2
  ihave Ho := (sent_held d L _ p _ 1024 1 g1 hg1 _ S1x4x1024.size rfl (k0_off19 L t) (k0_off19_eq L t) (k0_off19_inb L t h)
    ![1, 0, 0] rfl inb_S4x4x1024_S1x4x1024_1_0_0 S4x1024 squeezes_S1x4x1024_S4x1024) $$ Ho
  iapply (cloud_run d L 2 (by decide) k0_t4_loop (k0_t4_ok L t h) k0_t4_abs.2.1 (fun k => ![k0_off20 k, k0_off21 k, k0_off22 k, k0_off23 k])
    (fun k r => by fin_cases r; exacts [k0_off20_eq k, k0_off21_eq k, k0_off22_eq k, k0_off23_eq k])
    (fun k => ![k0_off24 k, k0_off25 k, k0_off26 k, k0_off27 k])
    (fun k r => by fin_cases r; exacts [k0_off24_eq k, k0_off25_eq k, k0_off26_eq k, k0_off27_eq k]) _ (fun k => rfl) p _ 1024 (by decide) X' hX' _) $$ [HI HO]
  · isplitl [HI] <;> iassumption
  iintro ⟨%g2, %hg2, HI, HO⟩
  sl_exec (disch := first | exact View.amount_pos _ _ (show 0 < S16x1024.numel by decide) | exact View.amount_pos _ _ (show 0 < S4x1024.numel by decide))
  unfold chunk_run.sl.Ho_w0_2 chunk_run.sl.dma0_3
  ihave Ho := (sent_held d L _ p _ 1024 2 g2 hg2 _ S1x4x1024.size rfl (k0_off28 L t) (k0_off28_eq L t) (k0_off28_inb L t h)
    ![2, 0, 0] rfl inb_S4x4x1024_S1x4x1024_2_0_0 S4x1024 squeezes_S1x4x1024_S4x1024) $$ Ho
  iapply (cloud_run d L 3 (by decide) k0_t5_loop (k0_t5_ok L t h) k0_t5_abs.2.1 (fun k => ![k0_off29 k, k0_off30 k, k0_off31 k, k0_off32 k])
    (fun k r => by fin_cases r; exacts [k0_off29_eq k, k0_off30_eq k, k0_off31_eq k, k0_off32_eq k])
    (fun k => ![k0_off33 k, k0_off34 k, k0_off35 k, k0_off36 k])
    (fun k r => by fin_cases r; exacts [k0_off33_eq k, k0_off34_eq k, k0_off35_eq k, k0_off36_eq k]) _ (fun k => rfl) p _ 1024 (by decide) X' hX' _) $$ [HI HO]
  · isplitl [HI] <;> iassumption
  iintro ⟨%g3, %hg3, HI, HO⟩
  sl_exec (disch := first | exact View.amount_pos _ _ (show 0 < S16x1024.numel by decide) | exact View.amount_pos _ _ (show 0 < S4x1024.numel by decide))
  unfold chunk_run.sl.Ho_w0_3 chunk_run.sl.dma0_4
  ihave Ho := (sent_held d L _ p _ 1024 3 g3 hg3 _ S1x4x1024.size rfl (k0_off37 L t) (k0_off37_eq L t) (k0_off37_inb L t h)
    ![3, 0, 0] rfl inb_S4x4x1024_S1x4x1024_3_0_0 S4x1024 squeezes_S1x4x1024_S4x1024) $$ Ho
  sl_step
  isplitl [Hmw]; · iexact Hmw
  isplitl [Hi]; · iexact Hi
  isplitl [Ho]; · iexact Ho
  isplitl [HI]; · iexists _; iexact HI
  isplitl [HO]; · iexists _; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact Hw

/-- After a trip one more round of the tile's columns is finished. -/
theorem loop_step (t : Fin k0_t1_loop.trips) (p : S16x120064.Idx → F .f32) (q : S4x4x120064.Idx → F .f32)
    (hq : ∀ z : S4x4x120064.Idx, owner (z 2).val = tileNo L → (z 2).val < 119808 → (z 2).val / 32768 < t.val → q z = stacked rows p z)
    (z : S4x4x120064.Idx) (hz : owner (z 2).val = tileNo L) (h1 : (z 2).val < 119808) (h2 : (z 2).val / 32768 < t.val + 1) :
    (k0_cond1 L t = 1#1 → sentAll p (first L t) 1024 q z = stacked rows p z) ∧ (¬ k0_cond1 L t = 1#1 → q z = stacked rows p z) := by
  have hL := tileNo_lt L
  have ho : (z 2).val / 1024 % 32 = tileNo L := (if_pos h1).symm.trans hz
  constructor
  · intro _
    rw [sentAll_apply]
    split
    · rfl
    · rename_i hn
      refine hq z hz h1 ?_
      have hd : (z 2).val = 1024 * ((z 2).val / 1024) + (z 2).val % 1024 := (Nat.div_add_mod _ _).symm
      unfold first at hn; unfold tileNo at *; omega
  · intro hc
    have := mt (works_iff L t).mpr hc
    exact hq z hz h1 (by omega)

/-- What a tile holds before trip `k`: the output's finished columns are those of the earlier trips. -/
def loopHeld (O : CellTallies nD τ sig (HIx 1)) (p : S16x120064.Idx → F .f32) (k : Nat) : sProp 𝕄 :=
  iprop(∃ q : S4x4x120064.Idx → F .f32,
    ⌜∀ z : S4x4x120064.Idx, owner (z 2).val = tileNo L → (z 2).val < 119808 → (z 2).val / 32768 < k → q z = stacked rows p z⌝ ∗ tileHeld d L O p q)

/-- A trip keeps the loop's invariant. -/
theorem trip_chunk (O : CellTallies nD τ sig (HIx 1)) (t : Fin k0_t1_loop.trips) (v : BitVec 32) (p : S16x120064.Idx → F .f32) :
    loopHeld d L O p t.val
      ⊢ (wp frame (wpE (defs₀ (F := F)) Variants.none (V d (cV L) (jV L)) none) Set.univ
          (k0_t1_body L iV (Memref.isWhole_whole _) oV (Memref.isWhole_whole _) sI (Memref.isWhole_whole _) sO (Memref.isWhole_whole _)
            cc0_scoped0 cc0_scoped1 cc0_scoped2 cc0_scoped3 cc0_scoped4 cc0_scoped5 cc0_scoped6 cc0_scoped7 cc0_scoped8 cc0_scoped9 v t ⟨⟩)
          fun _ => loopHeld d L O p (t.val + 1) : sProp 𝕄) := by
  unfold loopHeld
  iintro ⟨%q, %hq, H⟩
  have hs := loop_step L t p q hq
  by_cases h : k0_cond1 L t = 1#1
  · iapply ((chunk_run d L O t v p q h).trans (wp_mono _ _ _ fun _ => show _ ⊢ loopHeld d L O p (t.val + 1) from ?_)) $$ H
    unfold loopHeld
    iintro H
    iexists (sentAll p (first L t) 1024 q)
    isplitr
    · ipureintro; exact fun z hz h1 h2 => (hs z hz h1 h2).1 h
    iexact H
  · unfold k0_t1_body
    rw [dif_neg h]
    sl_step
    iexists q
    isplitr
    · ipureintro; exact fun z hz h1 h2 => (hs z hz h1 h2).2 h
    iexact H

/-- The body on a tile finishes the tile's columns of the output. -/
theorem body_run (O : CellTallies nD τ sig (HIx 1)) (p : S16x120064.Idx → F .f32) (q : S4x4x120064.Idx → F .f32) :
    tileHeld d L O p q
      ⊢ (wp frame (wpE (defs₀ (F := F)) Variants.none (V d (cV L) (jV L)) none) Set.univ
          (cc0__scfilt_body L iV (Memref.isWhole_whole _) oV (Memref.isWhole_whole _) sI (Memref.isWhole_whole _) sO (Memref.isWhole_whole _)
            cc0_scoped0 cc0_scoped1 cc0_scoped2 cc0_scoped3 cc0_scoped4 cc0_scoped5 cc0_scoped6 cc0_scoped7 cc0_scoped8 cc0_scoped9)
          fun _ => iprop(∃ q' : S4x4x120064.Idx → F .f32, ⌜∀ z, owner (z 2).val = tileNo L → q' z = stacked rows p z⌝ ∗ tileHeld d L O p q') : sProp 𝕄) := by
  rw [cc0__scfilt_body_eq_skeleton]
  unfold cc0__scfilt_body_skel
  have hloop := fun (β : Type) kk (Q : β → sProp 𝕄) => Scf.wp_for_bind frame (wpE (defs₀ (F := F)) Variants.none (V d (cV L) (jV L)) none) Set.univ k0_t1_loop.lb k0_t1_loop.ub k0_t1_loop.st k0_t1_ok ⟨⟩
    (k0_t1_body L iV (Memref.isWhole_whole _) oV (Memref.isWhole_whole _) sI (Memref.isWhole_whole _) sO (Memref.isWhole_whole _)
      cc0_scoped0 cc0_scoped1 cc0_scoped2 cc0_scoped3 cc0_scoped4 cc0_scoped5 cc0_scoped6 cc0_scoped7 cc0_scoped8 cc0_scoped9
      (Scalar.addi (Scalar.muli (BitVec.ofNat 32 (L 1).val) 2#32) (BitVec.ofNat 32 (L 0).val)))
    (fun k _ => loopHeld d L O p k) (fun t _ => trip_chunk d L O t _ p) (kk := kk) (Q := Q)
  iintro H
  iapply (hloop _ _ _) $$ [H]
  · unfold loopHeld
    iexists q
    isplitr
    · ipureintro; exact fun z _ _ h => absurd h (Nat.not_lt_zero _)
    iexact H
  iintro %_ H
  unfold loopHeld
  icases H with ⟨%q', %hq', H⟩
  have hq : ∀ z : S4x4x120064.Idx, owner (z 2).val = tileNo L → (z 2).val < 119808 → q' z = stacked rows p z := fun z hz h1 => hq' z hz h1 (by
    show (z 2).val / 32768 < k0_t1_loop.trips
    rw [trips_eq]; omega)
  by_cases h : k0_cond2 L = 1#1
  · have hw : ∀ j, 119808 ≤ j → j < 119808 + 256 → owner j = tileNo L := fun j h1 h2 => by
      rw [(last_iff L).mp h]; exact if_neg (by omega)
    have hi := iWin_disjoint (tileNo L) _ 256 S16x256.size rfl ![0, 119808] rfl inb_S16x120064_S16x256_0_119808 hw
    have ho0 := oWin_disjoint (tileNo L) _ 256 0 S1x4x256.size rfl ![0, 0, 119808] rfl inb_S4x4x120064_S1x4x256_0_0_119808 S4x256 squeezes_S1x4x256_S4x256 hw
    have ho1 := oWin_disjoint (tileNo L) _ 256 1 S1x4x256.size rfl ![1, 0, 119808] rfl inb_S4x4x120064_S1x4x256_1_0_119808 S4x256 squeezes_S1x4x256_S4x256 hw
    have ho2 := oWin_disjoint (tileNo L) _ 256 2 S1x4x256.size rfl ![2, 0, 119808] rfl inb_S4x4x120064_S1x4x256_2_0_119808 S4x256 squeezes_S1x4x256_S4x256 hw
    have ho3 := oWin_disjoint (tileNo L) _ 256 3 S1x4x256.size rfl ![3, 0, 119808] rfl inb_S4x4x120064_S1x4x256_3_0_119808 S4x256 squeezes_S1x4x256_S4x256 hw
    have hX : ∀ X, Fetched p 119808 256 _ := fun X => fetched p 119808 256 X S16x256.size rfl ![0, 119808] rfl inb_S16x120064_S16x256_0_119808 inb_S16x1024_S16x256_0_0
    rw [dif_pos h, k0_part20_eq_skeleton, k0_part21_eq_skeleton, k0_part22_eq_skeleton]
    unfold k0_part20_skel tileHeld
    icases H with ⟨Hmw, Hi, Ho, ⟨%X, HI⟩, ⟨%g, HO⟩, H0, H1, H2, H3, H4, H5, H6, H7, H8, H9, ⟨%W, Hw⟩⟩
    sl_exec (disch := first | exact View.amount_pos _ _ (show 0 < S16x256.numel by decide) | exact View.amount_pos _ _ (show 0 < S4x256.numel by decide))
    rw [bind_assoc]
    unfold body_run.sl.dma0
    ihave ⟨%X', %hX', HI⟩ := (fetched_held d L p _ 256 _ (hX _)) $$ HI
    iapply (cloud_run d L 0 (by decide) k0_t6_loop (k0_t6_ok L h) (by decide) (fun k => ![k0_off38 k, k0_off39 k, k0_off40 k, k0_off41 k])
      (fun k r => by fin_cases r; exacts [k0_off38_eq k, k0_off39_eq k, k0_off40_eq k, k0_off41_eq k])
      (fun k => ![k0_off42 k, k0_off43 k, k0_off44 k, k0_off45 k])
      (fun k r => by fin_cases r; exacts [k0_off42_eq k, k0_off43_eq k, k0_off44_eq k, k0_off45_eq k]) _ (fun k => rfl) p _ 256 (by decide) X' hX' _) $$ [HI HO]
    · isplitl [HI] <;> iassumption
    iintro ⟨%g0, %hg0, HI, HO⟩
    sl_exec (disch := first | exact View.amount_pos _ _ (show 0 < S16x256.numel by decide) | exact View.amount_pos _ _ (show 0 < S4x256.numel by decide))
    unfold body_run.sl.dma0_1
    ihave Ho := (sent_held d L _ p _ 256 0 g0 hg0 _ S1x4x256.size rfl ![0, 0, 119808] rfl inb_S4x4x120064_S1x4x256_0_0_119808
      ![0, 0, 0] rfl inb_S4x4x1024_S1x4x256_0_0_0 S4x256 squeezes_S1x4x256_S4x256) $$ Ho
    iapply (cloud_run d L 1 (by decide) k0_t7_loop (k0_t7_ok L h) (by decide) (fun k => ![k0_off46 k, k0_off47 k, k0_off48 k, k0_off49 k])
      (fun k r => by fin_cases r; exacts [k0_off46_eq k, k0_off47_eq k, k0_off48_eq k, k0_off49_eq k])
      (fun k => ![k0_off50 k, k0_off51 k, k0_off52 k, k0_off53 k])
      (fun k r => by fin_cases r; exacts [k0_off50_eq k, k0_off51_eq k, k0_off52_eq k, k0_off53_eq k]) _ (fun k => rfl) p _ 256 (by decide) X' hX' _) $$ [HI HO]
    · isplitl [HI] <;> iassumption
    iintro ⟨%g1, %hg1, HI, HO⟩
    sl_exec (disch := first | exact View.amount_pos _ _ (show 0 < S16x256.numel by decide) | exact View.amount_pos _ _ (show 0 < S4x256.numel by decide))
    unfold body_run.sl.dma0_2
    ihave Ho := (sent_held d L _ p _ 256 1 g1 hg1 _ S1x4x256.size rfl ![1, 0, 119808] rfl inb_S4x4x120064_S1x4x256_1_0_119808
      ![1, 0, 0] rfl inb_S4x4x1024_S1x4x256_1_0_0 S4x256 squeezes_S1x4x256_S4x256) $$ Ho
    iapply (cloud_run d L 2 (by decide) k0_t8_loop (k0_t8_ok L h) (by decide) (fun k => ![k0_off54 k, k0_off55 k, k0_off56 k, k0_off57 k])
      (fun k r => by fin_cases r; exacts [k0_off54_eq k, k0_off55_eq k, k0_off56_eq k, k0_off57_eq k])
      (fun k => ![k0_off58 k, k0_off59 k, k0_off60 k, k0_off61 k])
      (fun k r => by fin_cases r; exacts [k0_off58_eq k, k0_off59_eq k, k0_off60_eq k, k0_off61_eq k]) _ (fun k => rfl) p _ 256 (by decide) X' hX' _) $$ [HI HO]
    · isplitl [HI] <;> iassumption
    iintro ⟨%g2, %hg2, HI, HO⟩
    sl_exec (disch := first | exact View.amount_pos _ _ (show 0 < S16x256.numel by decide) | exact View.amount_pos _ _ (show 0 < S4x256.numel by decide))
    unfold body_run.sl.dma0_3
    ihave Ho := (sent_held d L _ p _ 256 2 g2 hg2 _ S1x4x256.size rfl ![2, 0, 119808] rfl inb_S4x4x120064_S1x4x256_2_0_119808
      ![2, 0, 0] rfl inb_S4x4x1024_S1x4x256_2_0_0 S4x256 squeezes_S1x4x256_S4x256) $$ Ho
    iapply (cloud_run d L 3 (by decide) k0_t9_loop (k0_t9_ok L h) (by decide) (fun k => ![k0_off62 k, k0_off63 k, k0_off64 k, k0_off65 k])
      (fun k r => by fin_cases r; exacts [k0_off62_eq k, k0_off63_eq k, k0_off64_eq k, k0_off65_eq k])
      (fun k => ![k0_off66 k, k0_off67 k, k0_off68 k, k0_off69 k])
      (fun k r => by fin_cases r; exacts [k0_off66_eq k, k0_off67_eq k, k0_off68_eq k, k0_off69_eq k]) _ (fun k => rfl) p _ 256 (by decide) X' hX' _) $$ [HI HO]
    · isplitl [HI] <;> iassumption
    iintro ⟨%g3, %hg3, HI, HO⟩
    sl_exec (disch := first | exact View.amount_pos _ _ (show 0 < S16x256.numel by decide) | exact View.amount_pos _ _ (show 0 < S4x256.numel by decide))
    unfold body_run.sl.dma0_4
    ihave Ho := (sent_held d L _ p _ 256 3 g3 hg3 _ S1x4x256.size rfl ![3, 0, 119808] rfl inb_S4x4x120064_S1x4x256_3_0_119808
      ![3, 0, 0] rfl inb_S4x4x1024_S1x4x256_3_0_0 S4x256 squeezes_S1x4x256_S4x256) $$ Ho
    sl_step
    iexists (sentAll p 119808 256 q')
    isplitr
    · ipureintro
      intro z hz
      have h2 : (z 2).val < 120064 := (z 2).isLt
      rw [sentAll_apply]
      split
      · rfl
      · exact hq z hz (by omega)
    isplitl [Hmw]; · iexact Hmw
    isplitl [Hi]; · iexact Hi
    isplitl [Ho]; · iexact Ho
    isplitl [HI]; · iexists _; iexact HI
    isplitl [HO]; · iexists _; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact Hw
  · rw [dif_neg h]
    sl_step
    iexists q'
    isplitr
    · ipureintro
      refine fun z hz => hq z hz (Nat.lt_of_not_le fun hl => h ((last_iff L).mpr (hz.symm.trans (if_neg ?_))))
      omega
    iexact H

end Chunk

end Cert.Points.Sc
end
-- ==== Proof.Launch.lean ====
/-
  The launch of the tiles.

  The call hands each core the columns of its sixteen tiles, each core hands each tile its own, and every tile brings its
  columns of the output back with the rows of its points in them. Here the columns of the thirty-two tiles are shown to make
  up the two arrays, and the body's run is put into the form the launch asks for.
-/
module

public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.Pipeline.Frame

@[expose] public section

set_option maxRecDepth 16384

noncomputable section

namespace Cert.Points.Sc

open Cert.TilesIdeal Cert.TilesIdeal.Gen
open Idealize.ShloMosaic Idealize.ShloMosaic.ValueIdx Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "iV" => (Memref.whole Cert.TilesIdeal.main_v2_scv : Memref Cert.TilesIdeal.sig Kind.scVector Space.hbm Cert.TilesIdeal.S16x120064 EltTy.f32)
local notation "oV" => (Memref.whole Cert.TilesIdeal.main_v3_scv : Memref Cert.TilesIdeal.sig Kind.scVector Space.hbm Cert.TilesIdeal.S4x4x120064 EltTy.f32)
local notation "sI" => (Memref.whole Cert.TilesIdeal.cc0_scratch0 : Memref Cert.TilesIdeal.sig Kind.scVector Space.vmem Cert.TilesIdeal.S16x1024 EltTy.f32)
local notation "sO" => (Memref.whole Cert.TilesIdeal.cc0_scratch1 : Memref Cert.TilesIdeal.sig Kind.scVector Space.vmem Cert.TilesIdeal.S4x4x1024 EltTy.f32)

/-! ## The program as the launch sees it -/

/-- The labels of the program -/
abbrev ΛP : Labels := Pipeline.Sig Λ₀ (Fin 0) fun p => (pcfgs (F := F) p).Adm
/-- and the call's configuration. -/
abbrev K : SparseCore.Cfg τ sig (ΛP (F := F)) 1 := sc (F := F)
/-- The programs of the tiles, -/
abbrev D : Defs nD τ sig (Elt F) (ΛP (F := F)) := Pipeline.defs pcfgs defs₀
/-- with nothing to measure -/
abbrev 𝒱₀ : Variants := Variants.none
/-- on any side -/
abbrev 𝒱 : Variants := 𝒱₀.lift
/-- and at any call. -/
abbrev v₀ : 𝒱.V := Sum.inl none

/-- The launch semaphores differ where they must, none of them is scoped, and no buffer is shared by a core's tiles. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' ghost state lives. -/
abbrev EH : Emb UH (MT nD τ sig (HIx 1) (Elt F) ℕ UU ℕ) := embL

/-! ## What the handshakes carry -/

/-- One tile's columns of the input and of the output. -/
abbrev piece (d : Dev nD) (w : Nat) (p : S16x120064.Idx → F .f32) (q : S4x4x120064.Idx → F .f32) : sProp 𝕄 :=
  iprop((iLoc d ↦[Finset.univ \ iOthers w]{fullShare} p) ∗ oLoc d ↦[Finset.univ \ oOthers w]{fullShare} q)

/-- The columns of all tiles of one core. -/
abbrev pieces (d : Dev nD) (c : Nat) (p : S16x120064.Idx → F .f32) (q : S4x4x120064.Idx → F .f32) : sProp 𝕄 :=
  bigSep Finset.univ fun i : Fin 16 => piece d (2 * i.val + c) p q

variable (p : Dev nD → S16x120064.Idx → F .f32) (q : Dev nD → S4x4x120064.Idx → F .f32)

/-- The call takes the input at `p` and the output at `q`, split over the cores and the tiles, and returns the output
    with the rows of the points of `p`. -/
def P : (K (F := F)).Pay (nD := nD) (Val := Elt F) (Name := ℕ) (U := UU) where
  st := fun k d c => match k with | 0 => pieces d c.val (p d) (q d)
  dn := fun k d c => match k with | 0 => pieces d c.val (p d) (stacked rows (p d))
  go := fun k d c i => match k with | 0 => piece d (2 * i.val + c.val) (p d) (q d)
  td := fun k d c i => match k with | 0 => piece d (2 * i.val + c.val) (p d) (stacked rows (p d))
  x := fun _ _ => iprop(emp)

/-- What is handed over can be kept in an invariant. -/
instance P_storable : (P (F := F) p q).IsStorable where
  st k d c := match k with | 0 => (inferInstance : BI.Storable (upEmb : UEmb _ 𝕄) (pieces d c.val (p d) (q d)))
  dn k d c := match k with | 0 => (inferInstance : BI.Storable (upEmb : UEmb _ 𝕄) (pieces d c.val (p d) (stacked rows (p d))))
  go k d c i := match k with | 0 => (inferInstance : BI.Storable (upEmb : UEmb _ 𝕄) (piece d (2 * i.val + c.val) (p d) (q d)))
  td k d c i := match k with | 0 => (inferInstance : BI.Storable (upEmb : UEmb _ 𝕄) (piece d (2 * i.val + c.val) (p d) (stacked rows (p d))))

/-! ## The tile's own cells and buffers -/

section Tile

variable (d : Dev nD) (L : grid0.Coords)

/-- The semaphores the body names. -/
def named : Finset (SemLoc sig) := {.dma cc0_scoped0.sem, .dma cc0_scoped1.sem, .dma cc0_scoped2.sem, .dma cc0_scoped3.sem, .dma cc0_scoped4.sem,
  .dma cc0_scoped5.sem, .dma cc0_scoped6.sem, .dma cc0_scoped7.sem, .dma cc0_scoped8.sem, .dma cc0_scoped9.sem}

/-- A tile's semaphore. -/
def onTile : SemLoc sig ↪ GSem nD τ sig := ⟨fun s => (V d (cV L) (jV L), s), fun _ _ h => (Prod.mk.inj h).2⟩

omit [FloatOps F] in
/-- They are the tile's own. -/
theorem named_own : named.map (onTile d L) ⊆ ownCells (V d (cV L) (jV L)) := fun g hg => by
  obtain ⟨s, hs, rfl⟩ := Finset.mem_map.mp hg
  exact mem_ownCells.mpr ⟨rfl, (show ∀ s ∈ named, s.isScoped .scVector = true by decide) s hs⟩

omit [FloatOps F] in
/-- The tile's semaphores are those the body names and the rest. -/
theorem ownSems0_tile :
    (ownSems0 (V d (cV L) (jV L)) : sProp 𝕄)
      = iprop((semVal ((V d (cV L) (jV L), .dma cc0_scoped0.sem) : GSem nD τ sig) 0
        ∗ semVal ((V d (cV L) (jV L), .dma cc0_scoped1.sem) : GSem nD τ sig) 0
        ∗ semVal ((V d (cV L) (jV L), .dma cc0_scoped2.sem) : GSem nD τ sig) 0
        ∗ semVal ((V d (cV L) (jV L), .dma cc0_scoped3.sem) : GSem nD τ sig) 0
        ∗ semVal ((V d (cV L) (jV L), .dma cc0_scoped4.sem) : GSem nD τ sig) 0
        ∗ semVal ((V d (cV L) (jV L), .dma cc0_scoped5.sem) : GSem nD τ sig) 0
        ∗ semVal ((V d (cV L) (jV L), .dma cc0_scoped6.sem) : GSem nD τ sig) 0
        ∗ semVal ((V d (cV L) (jV L), .dma cc0_scoped7.sem) : GSem nD τ sig) 0
        ∗ semVal ((V d (cV L) (jV L), .dma cc0_scoped8.sem) : GSem nD τ sig) 0
        ∗ semVal ((V d (cV L) (jV L), .dma cc0_scoped9.sem) : GSem nD τ sig) 0)
        ∗ bigSep (ownCells (V d (cV L) (jV L)) \ named.map (onTile d L)) fun g => semVal g 0) := by
  unfold SparseCore.Cfg.ownSems0
  rw [← Finset.union_sdiff_of_subset (named_own d L), SparseCore.bigSep_union' Finset.disjoint_sdiff, BI.bigSep_map,
    Finset.union_sdiff_of_subset (named_own d L)]
  unfold named
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
/-- The tile's buffers are the two scratches, each at some contents, and the rest. -/
theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task of one tile: from its columns to its columns finished. -/
theorem tile_body (hF : (K (F := F)).Facts) (O : CellTallies nD τ sig (HIx 1)) (W : Waits sig (HIx 1)) (hO : ∀ g, O g none = 0)
    (p : S16x120064.Idx → F .f32) (q : S4x4x120064.Idx → F .f32) :
    iprop(levAts (K (F := F)).L (K (F := F)).lev ∗ emp ∗ piece d (tileNo L) p q
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__scfilt_body L iV (Memref.isWhole_whole _) oV (Memref.isWhole_whole _) sI (Memref.isWhole_whole _) sO (Memref.isWhole_whole _)
            cc0_scoped0 cc0_scoped1 cc0_scoped2 cc0_scoped3 cc0_scoped4 cc0_scoped5 cc0_scoped6 cc0_scoped7 cc0_scoped8 cc0_scoped9)
          fun _ => iprop(piece d (tileNo L) p (stacked rows p)
            ∗ scopedBufs (V d (cV L) (jV L)) ∗ scopedSems0 (V d (cV L) (jV L))
            ∗ ∃ W', ⌜∀ x ∈ W', x ∈ W ∨ x.2 = none ∨ x.2 = some (0 : Fin 1)⌝ ∗ owes (V d (cV L) (jV L)) O W') : sProp 𝕄) := by
  rw [(K (F := F)).scopedBufs_V hF d (cV L) (jV L), SparseCore.Cfg.scopedSems0_V (Val := Elt F) d (cV L) (jV L), ownSems0_tile, ownBufs_tile]
  iintro ⟨#Hlv, -, ⟨Hi, Ho⟩, ⟨HI, HO, Hbufs⟩, ⟨⟨H0, H1, H2, H3, H4, H5, H6, H7, H8, H9⟩, Hsems⟩, Hw⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hwp := (body_run d L O p q) $$ [Hmw Hi Ho HI HO H0 H1 H2 H3 H4 H5 H6 H7 H8 H9 Hw]
  · unfold tileHeld
    isplitl [Hmw]; · iexact Hmw
    isplitl [Hi]; · iexact Hi
    isplitl [Ho]; · iexact Ho
    isplitl [HI]; · iexact HI
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists W; iexact Hw
  iapply (wp_wand frame _ _) $$ Hwp
  iintro %a ⟨%q', %hq, Hheld⟩
  unfold tileHeld
  icases Hheld with ⟨-, Hi, Ho, HI, HO, H0, H1, H2, H3, H4, H5, H6, H7, H8, H9, %W', Hw⟩
  isplitl [Hi Ho]
  · isplitl [Hi]; · iexact Hi
    iapply (Entails.of_eq (pointsTo_congr (ℓ := oLoc d) (I := Finset.univ \ oOthers (tileNo L)) (q := fullShare) (f := q') (g := stacked rows p)
      fun z hz => hq z (not_not.mp fun h => (Finset.mem_sdiff.mp hz).2 (Finset.mem_filter.mpr ⟨Finset.mem_univ z, h⟩))))
    iexact Ho
  isplitl [HI HO Hbufs]
  · isplitl [HI]; · iexact HI
    isplitl [HO]; · iexact HO
    iexact Hbufs
  isplitl [H0 H1 H2 H3 H4 H5 H6 H7 H8 H9 Hsems]
  · isplitr [Hsems]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hsems
  iexists W'; isplitr
  swap; · iexact Hw
  ipureintro; intro x _
  rcases x.2 with _ | k
  · exact .inr (.inl rfl)
  · exact .inr (.inr (congrArg some (Subsingleton.elim k 0)))

end Tile

/-! ## The obligation and the split -/

/-- The coordinates of a tile. -/
def coords (c : Fin (grid0.bound 0)) (s : Fin (grid0.bound 1)) : grid0.Coords :=
  fun | 0 => c | 1 => s | ⟨_ + 2, h⟩ => absurd h (Nat.not_lt.2 (Nat.le_add_left _ _))

/-- A tile's program is the body where the mesh has the tile. -/
theorem defs₀_tile (c : Fin τ.nSC) (s : Fin τ.nSub) :
    defs₀ (F := F) (.scVector c s) 0 ()
      = SparseCore.onTile hcore0 hsub0 (fun c s => cc0__scfilt_body (coords c s)
          iV (Memref.isWhole_whole _) oV (Memref.isWhole_whole _) sI (Memref.isWhole_whole _) sO (Memref.isWhole_whole _)
          cc0_scoped0 cc0_scoped1 cc0_scoped2 cc0_scoped3 cc0_scoped4 cc0_scoped5 cc0_scoped6 cc0_scoped7 cc0_scoped8 cc0_scoped9) ⟨⟩ c s := rfl

/-- Every tile brings back its columns finished. -/
theorem tileObl (hF : (K (F := F)).Facts) : (K (F := F)).TileObl (D (F := F)) 𝒱 (P p q) v₀ 0 := by
  intro d c i O W hO _ _
  simp only [show (P p q).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_body d (coords ⟨_, hci.1⟩ ⟨_, hci.2⟩) hF O W hO (p d) (q d)

/-- What a core is handed is what its tiles are handed, and what they bring back is what it brings back. -/
theorem vecSplit : (K (F := F)).VecSplit' (P p q) 0 := by
  intro d c
  show pieces d c.val (p d) (q d) ⊢ |={Set.univ}=> iprop(pieces d c.val (p d) (q d)
    ∗ (pieces d c.val (p d) (stacked rows (p d)) -∗ pieces d c.val (p d) (stacked rows (p d))))
  iintro H; imodintro
  isplitl [H]; · iexact H
  iintro H; iexact H

/-! ## The columns of the tiles make up the arrays -/

/-- Every column has an owner among the tiles, -/
theorem owner_lt (n : Nat) : owner n < 32 := by
  unfold owner; split <;> omega

/-- The number of the tile at a place of the mesh. -/
abbrev numberOf (x : Fin 2 × Fin 16) : Nat := 2 * x.2.val + x.1.val

/-- no two tiles have one number -/
theorem numberOf_injective {x y : Fin 2 × Fin 16} (h : numberOf x = numberOf y) : x = y := by
  obtain ⟨⟨a, ha⟩, b, hb⟩ := x
  obtain ⟨⟨a', ha'⟩, b', hb'⟩ := y
  have h : 2 * b + a = 2 * b' + a' := h
  exact Prod.ext (Fin.ext (show a = a' by omega)) (Fin.ext (show b = b' by omega))

/-- and every number is a tile's. -/
theorem numberOf_surjective (n : Nat) (hn : n < 32) : ∃ x : Fin 2 × Fin 16, n = numberOf x :=
  ⟨(⟨n % 2, by omega⟩, ⟨n / 2, by omega⟩), show n = 2 * (n / 2) + n % 2 by omega⟩

/-- A whole array is the union of the tiles' columns, whichever axis carries the columns. -/
theorem whole_tiles {ℓ : Loc nD τ sig} (at_ : Idx ℓ → Nat) (others : Nat → Finset (Idx ℓ))
    (ho : ∀ w y, y ∈ others w ↔ owner (at_ y) ≠ w) (f : Buf (Elt F) ℓ) :
    (ℓ ↦{fullShare} f : sProp 𝕄)
      = bigSep Finset.univ fun x : Fin 2 × Fin 16 => ℓ ↦[Finset.univ \ others (numberOf x)]{fullShare} f := by
  have mine : ∀ w y, y ∈ Finset.univ \ others w ↔ owner (at_ y) = w := fun w y => by
    rw [Finset.mem_sdiff, ho]; exact ⟨fun h => not_not.mp h.2, fun h => ⟨Finset.mem_univ y, not_not.mpr h⟩⟩
  rw [← pointsTo_biUnion Finset.univ (fun x => Finset.univ \ others (numberOf x)) fun x _ y _ hxy =>
      Finset.disjoint_left.mpr fun z hx hy => hxy (numberOf_injective (((mine _ z).mp hx).symm.trans ((mine _ z).mp hy))),
    show Finset.univ.biUnion (fun x => Finset.univ \ others (numberOf x)) = Finset.univ from
      Finset.eq_univ_iff_forall.mpr fun y => by
        obtain ⟨x, hx⟩ := numberOf_surjective _ (owner_lt (at_ y))
        exact Finset.mem_biUnion.mpr ⟨x, Finset.mem_univ x, (mine _ y).mpr hx⟩]

/-- The two arrays whole are what the two cores are handed. -/
theorem whole_pieces (d : Dev nD) (p : S16x120064.Idx → F .f32) (q : S4x4x120064.Idx → F .f32) :
    (iprop((iLoc d ↦{fullShare} p) ∗ oLoc d ↦{fullShare} q) : sProp 𝕄) = bigSep Finset.univ fun c : Fin 2 => pieces d c.val p q := by
  rw [← BI.bigSep_univ_prod (fun x : Fin 2 × Fin 16 => piece d (numberOf x) p q), bigSep_sep',
    whole_tiles (ℓ := iLoc d) (fun y => (y 1).val) iOthers (fun w y => by simp [iOthers]) p,
    whole_tiles (ℓ := oLoc d) (fun y => (y 2).val) oOthers (fun w y => by simp [oOthers]) q]

/-! ## The launch element -/

/-- The ghost state at the launch: the handshakes' and no count of copies. -/
def u₀ : UU := (initOf (K (F := F)).hsCells (K (F := F)).hsToks, 1)

omit [FloatOps F] in
/-- Nothing, many times over, is nothing. -/
theorem nothing {I : Type} (s : Finset I) : (bigSep s fun _ => iprop(emp)) = (iprop(emp) : sProp 𝕄) := bigSep_emp_const s

/-- It pays for the handshakes; the tiles and the hosts need none of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun k : Fin 1 => (P p q).x k thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun k : Fin 1 => (P (F := F) p q).x k thr) = bigSep Finset.univ fun _ => iprop(emp) from
    bigSep_congr fun _ _ => bigSep_univ_of_subsingleton (0 : Fin 1), nothing]
  iempintro

end Cert.Points.Sc
end
-- ==== Proof.Host.lean ====
/-
  The run of the tiles' program.

  The host brings the features to the front, merges them with the clouds and pads the columns to a whole number of the
  tiles' chunks; the tiles write the rows of every column; the host drops the padding, turns the rows of a point to the
  last axis and slices three of them out. `run` : from any memory every execution ends with the distance, the height and
  the intensity of every point, the argument unchanged and every semaphore counter at zero.
-/
module

public import proofs.«01_k».proof.Proof.Launch
public import Idealize.ShloMosaic.Lib.Pipeline.FrameTail

@[expose] public section

set_option maxRecDepth 16384

noncomputable section

namespace Cert.Points.Sc

open Cert.TilesIdeal Cert.TilesIdeal.Gen
open Idealize.ShloMosaic Idealize.ShloMosaic.ValueIdx Idealize.ShloMosaic.Tactic
open Idealize.ShloMosaic.SparseCore (S V T)
open Idealize.ShloMosaic.SparseCore.Cfg (HIx Pay)
open Idealize.ShloMosaic.StableHlo (held seq after)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host's lines -/

/-- The lines before the call, -/
def before : List (HloOp τ sig (Elt F)) := [
  StableHlo.unary main_arg0 main_v0 ((transpose S4x4x120000 [2, 0, 1] · transposes_S4x120000x4_S4x4x120000_2_0_1) : (⟨S4x120000x4, .f32⟩ : BufTy).Contents (Elt F) → (⟨S4x4x120000, .f32⟩ : BufTy).Contents (Elt F)),
  StableHlo.reshape main_v0 main_v1 (rfl : (.f32 : EltTy) = .f32) shapeCasts_S4x4x120000_S16x120000,
  StableHlo.nullary main_c (constantI S_ 32 0#32),
  StableHlo.unary main_c main_call0_v0 (sitofp .f32),
  StableHlo.binary main_v1 main_call0_v0 main_v2 (fun x v => pad S16x120064 ![0, 0] ![0, 64] ![0, 0] x v pads_S16x120000_S16x120064_000_0640 h_S_)]

/-- and those after it. -/
def afterwards : List (HloOp τ sig (Elt F)) := [
  StableHlo.unary main_v3 main_v4 ((extractStridedSlice S4x4x120000 ![0, 0, 0] · slices_S4x4x120064_S4x4x120000_0_0_0) : (⟨S4x4x120064, .f32⟩ : BufTy).Contents (Elt F) → (⟨S4x4x120000, .f32⟩ : BufTy).Contents (Elt F)),
  StableHlo.unary main_v4 main_v5 ((transpose S4x120000x4 [0, 2, 1] · transposes_S4x4x120000_S4x120000x4_0_2_1) : (⟨S4x4x120000, .f32⟩ : BufTy).Contents (Elt F) → (⟨S4x120000x4, .f32⟩ : BufTy).Contents (Elt F)),
  StableHlo.unary main_v5 main_v6 ((extractStridedSlice S4x120000x1 ![0, 0, 0] · slices_S4x120000x4_S4x120000x1_0_0_0) : (⟨S4x120000x4, .f32⟩ : BufTy).Contents (Elt F) → (⟨S4x120000x1, .f32⟩ : BufTy).Contents (Elt F)),
  StableHlo.reshape main_v6 main_v7 (rfl : (.f32 : EltTy) = .f32) shapeCasts_S4x120000x1_S4x120000,
  StableHlo.unary main_v5 main_v8 ((extractStridedSlice S4x120000x1 ![0, 0, 2] · slices_S4x120000x4_S4x120000x1_0_0_2) : (⟨S4x120000x4, .f32⟩ : BufTy).Contents (Elt F) → (⟨S4x120000x1, .f32⟩ : BufTy).Contents (Elt F)),
  StableHlo.reshape main_v8 main_v9 (rfl : (.f32 : EltTy) = .f32) shapeCasts_S4x120000x1_S4x120000,
  StableHlo.unary main_v5 main_v10 ((extractStridedSlice S4x120000x1 ![0, 0, 3] · slices_S4x120000x4_S4x120000x1_0_0_3) : (⟨S4x120000x4, .f32⟩ : BufTy).Contents (Elt F) → (⟨S4x120000x1, .f32⟩ : BufTy).Contents (Elt F)),
  StableHlo.reshape main_v10 main_v11 (rfl : (.f32 : EltTy) = .f32) shapeCasts_S4x120000x1_S4x120000]

/-- The lines touch only buffers of the host, -/
theorem before_sub : ∀ op ∈ (before : List (HloOp τ sig (Elt F))), op.bufs ⊆ ucRefs τ sig := fun op hop =>
  Pipeline.sub_ucRefs op (List.forall_iff_forall_mem.mp (show (before : List (HloOp τ sig (Elt F))).Forall fun op => op.bufs ⊆ StableHlo.tcRefs τ sig from
    ⟨StableHlo.unary_bufs_sub .., StableHlo.reshape_bufs_sub .., StableHlo.nullary_bufs_sub .., StableHlo.unary_bufs_sub .., StableHlo.binary_bufs_sub ..⟩) op hop)

theorem afterwards_sub : ∀ op ∈ (afterwards : List (HloOp τ sig (Elt F))), op.bufs ⊆ ucRefs τ sig := fun op hop =>
  Pipeline.sub_ucRefs op (List.forall_iff_forall_mem.mp (show (afterwards : List (HloOp τ sig (Elt F))).Forall fun op => op.bufs ⊆ StableHlo.tcRefs τ sig from
    ⟨StableHlo.unary_bufs_sub .., StableHlo.unary_bufs_sub .., StableHlo.unary_bufs_sub .., StableHlo.reshape_bufs_sub .., StableHlo.unary_bufs_sub ..,
      StableHlo.reshape_bufs_sub .., StableHlo.unary_bufs_sub .., StableHlo.reshape_bufs_sub ..⟩) op hop)

/-- and none of them draws fresh contents. -/
theorem before_fresh : ∀ op ∈ (before : List (HloOp τ sig (Elt F))), op.fresh = ∅ :=
  List.forall_iff_forall_mem.mp (by simp only [before, List.Forall]; repeat' constructor)

theorem afterwards_fresh : ∀ op ∈ (afterwards : List (HloOp τ sig (Elt F))), op.fresh = ∅ :=
  List.forall_iff_forall_mem.mp (by simp only [afterwards, List.Forall]; repeat' constructor)

/-- The program is the lines before, the call and the lines after. -/
theorem main_eq (d : Dev nD) : main (F := F) d = (seq before >>= fun _ => (K (F := F)).run d 0 >>= fun _ => seq afterwards >>= fun _ => pure ⟨⟩) := by
  rfl

/-! ## The contents along the way -/

variable (m : (ℓ : Loc nD τ sig) → Buf (Elt F) ℓ) (ρ : Dev nD → PrngReg)

/-- The operand of the call -/
abbrev input' : DevRef τ sig := Proc.devRef .tc (main_v2 : Ref sig .tc)
/-- and its result, among the buffers. -/
abbrev output' : DevRef τ sig := Proc.devRef .tc (main_v3 : Ref sig .tc)

/-- The buffers as the call finds them, -/
def found (d : Dev nD) : Valuation τ sig (Elt F) := after before fun b => m (d, b)

/-- its operand and what is in its result's buffer then, -/
def padded (d : Dev nD) : S16x120064.Idx → F .f32 := found m d input'
/-- what is in its result's buffer then, -/
def stale (d : Dev nD) : S4x4x120064.Idx → F .f32 := found m d output'

/-- the buffers as the call leaves them, -/
def left (d : Dev nD) : Valuation τ sig (Elt F) := Function.update (found m d) output' (stacked rows (padded m d))

/-- and at the end. -/
def last (d : Dev nD) : Valuation τ sig (Elt F) := after afterwards (left m d)

omit [FloatOps F] in
/-- Both are buffers of the host. -/
theorem input_mem : input' ∈ ucRefs τ sig := by decide
omit [FloatOps F] in
theorem output_mem : output' ∈ (ucRefs τ sig).erase input' := by decide

omit [FloatOps F] in
/-- The host's buffers are the operand, the result and the rest. -/
theorem held_split (d : Dev nD) (W : Valuation τ sig (Elt F)) :
    (held (d.tc : Thread nD τ) (ucRefs τ sig) W : sProp 𝕄)
      = iprop((iLoc d ↦{fullShare} W input') ∗ (oLoc d ↦{fullShare} W output') ∗ held (d.tc : Thread nD τ) (((ucRefs τ sig).erase input').erase output') W) := by
  unfold held
  rw [SparseCore.bigSep_erase' input_mem, SparseCore.bigSep_erase' output_mem]

/-! ## The run -/

omit [FloatOps F] in
/-- Changing the result's buffer changes nothing of the rest. -/
theorem rest_update (d : Dev nD) (W : Valuation τ sig (Elt F)) (x : Buf (Elt F) (oLoc d)) :
    (held (d.tc : Thread nD τ) (((ucRefs τ sig).erase input').erase output') (Function.update W output' x) : sProp 𝕄)
      = held (d.tc : Thread nD τ) (((ucRefs τ sig).erase input').erase output') W := by
  unfold held
  exact bigSep_congr fun b hb => by rw [Function.update_of_ne (Finset.ne_of_mem_erase hb)]

/-- What the lines before the call leave, taken apart. -/
theorem found_split (d : Dev nD) :
    (held (d.tc : Thread nD τ) (ucRefs τ sig) (after before fun b => m (d, b)) : sProp 𝕄)
      ⊢ iprop((iLoc d ↦{fullShare} found m d input') ∗ (oLoc d ↦{fullShare} found m d output')
          ∗ held (d.tc : Thread nD τ) (((ucRefs τ sig).erase input').erase output') (found m d)) :=
  Entails.of_eq (held_split d (found m d))

/-- The call leaves its operand -/
theorem left_input (d : Dev nD) : left m d input' = padded m d :=
  Function.update_of_ne (show input' ≠ output' by decide) _ _

/-- and makes its result. -/
theorem left_output (d : Dev nD) : left m d output' = stacked rows (padded m d) := Function.update_self _ _ _

/-- The two cores' takings are the operand and the result's buffer, -/
theorem starts (d : Dev nD) : (iprop((iLoc d ↦{fullShare} found m d input') ∗ oLoc d ↦{fullShare} found m d output') : sProp 𝕄)
    ⊢ bigSep Finset.univ fun c => (P (padded m) (stale m)).st 0 d c :=
  Entails.of_eq (whole_pieces d (padded m d) (stale m d))

/-- and what they bring back is the operand and the result. -/
theorem ends (d : Dev nD) : (bigSep Finset.univ fun c => (P (padded m) (stale m)).dn 0 d c)
    ⊢ (iprop((iLoc d ↦{fullShare} left m d input') ∗ oLoc d ↦{fullShare} left m d output') : sProp 𝕄) := by
  rw [left_input, left_output]
  exact Entails.of_eq (whole_pieces d (padded m d) (stacked rows (padded m d))).symm

/-- The host's program runs from what the launch deals it to the buffers as `last` states them. -/
theorem hmain (κ : GSem nD τ sig → ℕ) (d : Dev nD) :
    iprop((K (F := F)).ctx EH (P (padded m) (stale m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (d.tc : Thread nD τ) (ucRefs τ sig) (last m d) ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (ucRefs τ sig) (fun b => m (d, b))
    from Pipeline.unscopedBufs_held d (fun b => m (d, b))]
  iintro ⟨#Hctx, Hst, ⟨Hb, Hheld, Hts, -⟩, -⟩
  iapply (StableHlo.wp_seq 𝒱 none Set.univ d (ucRefs τ sig) _ before before_sub before_fresh (fun b => m (d, b))) $$ [Hb Hheld]
  · isplitl [Hb] <;> iassumption
  iintro ⟨Hb, Hheld⟩
  ihave Hs := (found_split m d) $$ Hheld
  icases Hs with ⟨Hi, Ho, Hrest⟩
  rw [wp_bind]
  iapply ((K (F := F)).wp_run (D (F := F)) 𝒱 (EH := EH) (P := P (padded m) (stale m)) κ d 0) $$ [Hst Hi Ho Hb Hts Hrest]
  isplitr; · iexact Hctx
  isplitl [Hst]; · iexact Hst
  isplitl [Hi Ho]
  · iapply (starts m d) $$ [Hi Ho]
    isplitl [Hi] <;> iassumption
  iintro ⟨Hst, Hdn⟩
  ihave Hd := (ends m d) $$ Hdn
  icases Hd with ⟨Hi, Ho⟩
  ihave Hheld := (Entails.of_eq (held_split d (left m d)).symm) $$ [Hi Ho Hrest]
  · isplitl [Hi]; · iexact Hi
    isplitl [Ho]; · iexact Ho
    iapply (Entails.of_eq (rest_update d (found m d) (stacked rows (padded m d))).symm) $$ Hrest
  iapply (StableHlo.wp_seq 𝒱 none Set.univ d (ucRefs τ sig) _ afterwards afterwards_sub afterwards_fresh (left m d)) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

/-- What the buffers of the host hold at the end. -/
def fq (d : Dev nD) (s' : Phys nD τ sig (Elt F)) : Prop := ∀ b ∈ ucRefs τ sig, s'.mem.mem (d, b) = last m d b

/-- Holding the buffers, the memory is read off. -/
theorem hfin (d : Dev nD) (s' : Phys nD τ sig (Elt F)) :
    iprop(held (d.tc : Thread nD τ) (ucRefs τ sig) (last m d) ∗ SI s') ⊢ (⌜fq m d s'⌝ : sProp 𝕄) := by
  unfold held
  iintro ⟨Hh, HSI⟩
  ihave Hr := (pointsTo_read_all (ucRefs τ sig) (fun b => (d, b)) (last m d) s') $$ [Hh HSI]
  · isplitl [Hh] <;> iassumption
  icases Hr with ⟨%h, -⟩
  ipureintro; exact h

/-- Every execution ends, with every buffer of the host at the contents the lines and the call leave. -/
theorem run_main [∀ e, Nonempty (Elt F e)] : θ_run (Cert.TilesIdeal.defs (F := F)) (Cert.TilesIdeal.threads (F := F)) ⟨m, fun _ => 0, ρ⟩
    fun r => (∀ d : Dev nD, ∀ b ∈ ucRefs τ sig, r.2.mem (d, b) = last m d b) ∧ r.2.sem = fun _ => 0 :=
  SparseCore.Cfg.θ_run_sc_quiescent (K := K (F := F)) (D := D (F := F)) (𝒱 := 𝒱) (EH := EH) (P := P (padded m) (stale m)) (A := ∅) launchFacts v₀
    (fun q hq => match q with | 0 => nomatch hq)
    (fun q _ => match q with | 0 => tileObl (padded m) (stale m) launchFacts)
    (fun q _ => match q with | 0 => SparseCore.Cfg.VecSplit.of_plain (vecSplit (padded m) (stale m)))
    m ρ main (fun _ => iprop(emp)) (fun d => held (d.tc : Thread nD τ) (ucRefs τ sig) (last m d)) (u₀ (F := F))
    (sep_elim_left.trans (hu₀ (padded m) (stale m))) (hmain m ρ) (fq m) (hfin m) _ (fun _ h hz => ⟨h, hz⟩)

end Cert.Points.Sc
end
-- ==== Proof.Columns.lean ====
/-
  What the tiles' program and its reference end with.

  Over the columns that hold points the padded table is the table of the clouds, so the rows the tiles leave, cut back
  and turned, are the rows of the points; the host slices three of them out: the distance, the height and the intensity.
  The reference slices the features out of the clouds and takes the root of the squares, which is the same three
  functions of a point.
-/
module

public import proofs.«01_k».proof.Proof.Host
public import proofs.«01_k».proof.Proof.Reference
public import proofs.«01_k».proof.Proof.Gen.ColumnsIdeal.Run
public import Idealize.ShloMosaic.Lib.KernelVsHost

@[expose] public section

set_option maxRecDepth 16384

noncomputable section

namespace Cert.Points.Sc

open Cert.TilesIdeal Cert.TilesIdeal.Gen
open Idealize.ShloMosaic Idealize.ShloMosaic.ValueIdx Idealize.ShloMosaic.Tactic Idealize.ShloMosaic.TcCoe
open Idealize.ShloMosaic.StableHlo (held seq after)
open Idealize.ShloMosaic.Pipeline (ucRefs)
open Idealize.SL.Sem

variable {F : FTy → Type} [FloatOps F]

/-! ## The rows over the columns that hold points -/

/-- A padded table has the columns of the table it pads. -/
theorem column_padded (X : S16x120000.Idx → F .f32) (v : S_.Idx → F .f32) (b : Fin 4) (j : Fin 120000) :
    column (pad S16x120064 ![0, 0] ![0, 64] ![0, 0] X v pads_S16x120000_S16x120064_000_0640 h_S_) b (⟨j.val, by omega⟩ : Fin 120064)
      = column X b j :=
  funext fun r => pad_apply_of_inside _ _ _ X v _ _ _ _ (by intro a; fin_cases a <;> simp)

/-- The first columns of the stacked rows are the stacked rows of the first columns. -/
theorem stacked_cut (g : Fin 4 → Pt F → F .f32) (X : S16x120064.Idx → F .f32) (Y : S16x120000.Idx → F .f32)
    (h : ∀ b (j : Fin 120000), column X b (⟨j.val, by omega⟩ : Fin 120064) = column Y b j) :
    extractStridedSlice S4x4x120000 ![0, 0, 0] (stacked g X) slices_S4x4x120064_S4x4x120000_0_0_0 = stacked g Y := by
  funext i
  have hi : (i 2).val < 120000 := (i 2).isLt
  rw [extractStridedSlice_apply _ (stacked g X) _ i (ix3 (i 0 : Fin 4) (i 1 : Fin 4) (⟨(i 2).val, by omega⟩ : Fin 120064)) (by
    intro a; fin_cases a <;> exact (Nat.zero_add _).symm)]
  exact congrArg (g (i 1)) (h (i 0) (i 2))

/-! ## The tiles' program -/

variable (m : (ℓ : Loc nD τ sig) → Buf (Elt F) ℓ) (ρ : Dev nD → PrngReg)

/-- The clouds as the program is given them. -/
abbrev clouds (d : Dev nD) : Vec F S4x120000x4 .f32 := m ((d : Thread nD τ).loc main_arg0)

/-- The host hands the tiles the merged clouds, padded by zeros. -/
theorem padded_eq (d : Dev nD) : padded m d = pad S16x120064 ![0, 0] ![0, 64] ![0, 0]
    (shapeCast S16x120000 (transpose S4x4x120000 [2, 0, 1] (clouds m d) transposes_S4x120000x4_S4x4x120000_2_0_1) shapeCasts_S4x4x120000_S16x120000)
    (sitofp .f32 (constantI S_ 32 0#32)) pads_S16x120000_S16x120064_000_0640 h_S_ := by
  unfold padded found before; after_results_simp <;> rfl

/-- The rows the tiles leave, cut back and turned, stand side by side per point. -/
theorem turned (d : Dev nD) :
    transpose S4x120000x4 [0, 2, 1] (extractStridedSlice S4x4x120000 ![0, 0, 0] (left m d output') slices_S4x4x120064_S4x4x120000_0_0_0)
      transposes_S4x4x120000_S4x120000x4_0_2_1 = perRow rows (clouds m d) := by
  rw [left_output, padded_eq, stacked_cut rows _ _ (column_padded _ _)]
  exact transpose_stacked rows _ (clouds m d) (column_merged (clouds m d) _ _) _

/-- A slice of them is one function of the points. -/
theorem sliced (d : Dev nD) (k : Fin 4) (hs : S4x120000x4.Slices ![0, 0, k.val] S4x120000x1) :
    shapeCast S4x120000 (extractStridedSlice S4x120000x1 ![0, 0, k.val]
      (transpose S4x120000x4 [0, 2, 1] (extractStridedSlice S4x4x120000 ![0, 0, 0] (left m d output') slices_S4x4x120064_S4x4x120000_0_0_0)
        transposes_S4x4x120000_S4x120000x4_0_2_1) hs) shapeCasts_S4x120000x1_S4x120000 = perPoint (rows k) (clouds m d) := by
  rw [turned]
  exact funext fun i => Reference.slice_apply (perRow rows (clouds m d)) k hs _ i

/-- The first result is the distance of every point, -/
theorem last_7 (d : Dev nD) : last m d (Proc.devRef .tc main_v7) = perPoint rho (clouds m d) := by
  refine Eq.trans ?_ (sliced m d 0 slices_S4x120000x4_S4x120000x1_0_0_0)
  unfold last afterwards; after_results_simp <;> rfl

/-- the second the height, -/
theorem last_9 (d : Dev nD) : last m d (Proc.devRef .tc main_v9) = perPoint height (clouds m d) := by
  refine Eq.trans ?_ (sliced m d 2 slices_S4x120000x4_S4x120000x1_0_0_2)
  unfold last afterwards; after_results_simp <;> rfl

/-- the third the intensity, -/
theorem last_11 (d : Dev nD) : last m d (Proc.devRef .tc main_v11) = perPoint (fun p => p 3) (clouds m d) := by
  refine Eq.trans ?_ (sliced m d 3 slices_S4x120000x4_S4x120000x1_0_0_3)
  unfold last afterwards; after_results_simp <;> rfl

/-- and the clouds are as they were. -/
theorem last_argument (d : Dev nD) : last m d (Proc.devRef .tc main_arg0) = clouds m d := by
  have h : last m d (Proc.devRef .tc main_arg0) = left m d (Proc.devRef .tc main_arg0) := by
    unfold last afterwards; after_results_simp
  rw [h, left, Function.update_of_ne (show Proc.devRef .tc main_arg0 ≠ output' by decide)]
  unfold found before; after_results_simp <;> rfl

/-- The argument ends unchanged and every counter at zero. -/
theorem frame [∀ e, Nonempty (Elt F e)] : θ_run (Cert.TilesIdeal.defs (F := F)) (Cert.TilesIdeal.threads (F := F)) ⟨m, fun _ => 0, ρ⟩ (fun r =>
    (∀ d : Dev nD, r.2.mem ((d : Thread nD τ).loc main_arg0) = m ((d : Thread nD τ).loc main_arg0)) ∧ r.2.sem = fun _ => 0) :=
  (θ_run (Cert.TilesIdeal.defs (F := F)) _ _).mono (fun _ h => ⟨fun d => (h.1 d _ (Pipeline.devRef_mem_ucRefs (by decide))).trans (last_argument m d), h.2⟩) (run_main m ρ)

/-- Each result ends at its function of the points, and the argument unchanged. -/
theorem run [∀ e, Nonempty (Elt F e)] : θ_run (Cert.TilesIdeal.defs (F := F)) (Cert.TilesIdeal.threads (F := F)) ⟨m, fun _ => 0, ρ⟩ (fun r => ∀ d : Dev nD,
      r.2.mem ((d : Thread nD τ).loc main_v7) = perPoint rho (clouds m d)
    ∧ r.2.mem ((d : Thread nD τ).loc main_v9) = perPoint height (clouds m d)
    ∧ r.2.mem ((d : Thread nD τ).loc main_v11) = perPoint (fun p => p 3) (clouds m d)
    ∧ r.2.mem ((d : Thread nD τ).loc main_arg0) = m ((d : Thread nD τ).loc main_arg0)) :=
  (θ_run (Cert.TilesIdeal.defs (F := F)) _ _).mono (fun _ h d => by
    have at_ := fun (b : Ref sig .tc) hb => h.1 d (Proc.devRef .tc b) (Pipeline.devRef_mem_ucRefs hb)
    exact ⟨(at_ main_v7 (by decide)).trans (last_7 m d), (at_ main_v9 (by decide)).trans (last_9 m d),
      (at_ main_v11 (by decide)).trans (last_11 m d), (at_ main_arg0 (by decide)).trans (last_argument m d)⟩) (run_main m ρ)

end Cert.Points.Sc

/-! ## The reference of the tiles' program -/

namespace Cert.Points.Columns

open Cert.ColumnsIdeal Cert.ColumnsIdeal.Gen
open Idealize.ShloMosaic Idealize.ShloMosaic.ValueIdx Idealize.ShloMosaic.TcCoe Idealize.SL.Sem

/-- The clouds as the reference is given them. -/
abbrev clouds (m : (ℓ : Loc nD τ sig) → Buf (Elt Ideal) ℓ) (c : Dev nD) : S4x120000x4.Idx → Ideal .f32 :=
  m ((c : Thread nD τ).loc main_arg0)

/-- A feature of the clouds. -/
theorem feature (A : S4x120000x4.Idx → Ideal .f32) (k : Fin 4) (hs : S4x120000x4.Slices ![0, 0, k.val] S4x120000x1) :
    shapeCast S4x120000 (extractStridedSlice S4x120000x1 ![0, 0, k.val] A hs) shapeCasts_S4x120000x1_S4x120000 = perPoint (fun p => p k) A :=
  funext fun i => Reference.slice_apply A k hs _ i

/-- Every run of the reference ends with each result at its function of the points and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = perPoint rho (clouds m c)
      ∧ r.2.mem ((c : Thread nD τ).loc main_v9) = perPoint height (clouds m c)
      ∧ r.2.mem ((c : Thread nD τ).loc main_v11) = perPoint (fun p => p 3) (clouds m c)
      ∧ r.2.mem ((c : Thread nD τ).loc main_arg0) = m ((c : Thread nD τ).loc main_arg0) :=
  (θ_run defs _ _).mono (fun r h c => by
    obtain ⟨h0, h1, h2, ha⟩ := h c
    refine ⟨h0.trans ?_, h1.trans (feature (clouds m c) 2 _), h2.trans (feature (clouds m c) 3 _), ha⟩
    have hx := feature (clouds m c) 0 slices_S4x120000x4_S4x120000x1_0_0_0
    have hy := feature (clouds m c) 1 slices_S4x120000x4_S4x120000x1_0_0_1
    exact congrArg₂ (fun x y : FVec Ideal S4x120000 .f32 => Host.sqrt (addf (mulf x x) (mulf y y))) hx hy)
    (Cert.ColumnsIdeal.Value.run m ρ)

end Cert.Points.Columns

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Tiles
public import proofs.«01_k».proof.Proof.Gen.Tiles.Skeleton
public import proofs.«01_k».proof.Proof.Gen.TilesIdeal
public import proofs.«01_k».proof.Proof.Gen.TilesIdeal.Skeleton
public import proofs.«01_k».proof.Proof.Gen.ColumnsIdeal
public import proofs.«01_k».proof.Proof.Gen.ColumnsIdeal.Run
public import proofs.«01_k».proof.Proof.Run
public import proofs.«01_k».proof.Proof.Reference
public import proofs.«01_k».proof.Proof.Columns
public import Idealize.ShloMosaic.Adequacy
public import Idealize.ShloMosaic.Init
public import Idealize.ShloMosaic.Lib.Pipeline.Regions

@[expose] public section

noncomputable section

namespace Cert.Proof

open Idealize.ShloMosaic Idealize.SL.Sem Cert.Kernel

/-- The kernel's program and its ideal program have one text, and the run is proved of that text over any floats: the
    frame over the machine's floats is the same statement under the other program's names. -/
theorem kernel_frame : Cert.quiescent_Kernel (hKernel := Cert.Kernel.Gen.facts) := fun m g _ =>
  Eq.mp (by chain_rfl) (Cert.Points.frame (F := Bits) m g)

/-- The reference runs, leaves its argument alone and has no semaphores to disturb. -/
theorem reference_frame : Cert.quiescent_ReferenceIdeal (hReferenceIdeal := Cert.ReferenceIdeal.Gen.facts) := fun m g _ =>
  (θ_run Cert.ReferenceIdeal.defs _ _).mono (fun r h => ⟨fun c => by
    obtain ⟨-, -, -, -, -, -, -, -, -, -, -, -, -, ha⟩ := h c
    exact ha, sem_eq_zero_of_no_sems (by decide) r.2⟩) (Cert.Points.Reference.run m g)

/-- Over the reals the kernel and the reference end with the same functions of the points. -/
theorem same_results : Cert.algebraic_KernelIdeal_ReferenceIdeal (hKernelIdeal := Cert.KernelIdeal.Gen.facts)
    (hReferenceIdeal := Cert.ReferenceIdeal.Gen.facts) := fun m g m' g' _ hm =>
  ⟨_, _, _, _, _, _, _, _, _, _, _, _, _, Cert.Points.run m g,
    (θ_run Cert.ReferenceIdeal.defs _ _).mono (fun r h c => by
      have hc : Cert.Points.Reference.clouds m' c = Cert.Points.clouds m c := hm c
      have h := h c
      rw [hc] at h
      exact h) (Cert.Points.Reference.run m' g')⟩

/-- The tiles' program likewise. -/
theorem tiles_frame : Cert.quiescent_Tiles (hTiles := Cert.Tiles.Gen.facts) := fun m g _ =>
  Eq.mp (by chain_rfl) (Cert.Points.Sc.frame (F := Bits) m g)

/-- Its reference runs, leaves its argument alone and has no semaphores to disturb. -/
theorem columns_frame : Cert.quiescent_ColumnsIdeal (hColumnsIdeal := Cert.ColumnsIdeal.Gen.facts) := fun m g _ =>
  (θ_run Cert.ColumnsIdeal.defs _ _).mono (fun r h => ⟨fun c => (h c).2.2.2, sem_eq_zero_of_no_sems (by decide) r.2⟩)
    (Cert.Points.Columns.run m g)

/-- Over the reals the tiles and their reference end with the same functions of the points. -/
theorem same_columns : Cert.algebraic_TilesIdeal_ColumnsIdeal (hTilesIdeal := Cert.TilesIdeal.Gen.facts)
    (hColumnsIdeal := Cert.ColumnsIdeal.Gen.facts) := fun m g m' g' _ hm =>
  ⟨_, _, _, Cert.Points.Sc.run m g,
    (θ_run Cert.ColumnsIdeal.defs _ _).mono (fun r h c => by
      have hc : Cert.Points.Columns.clouds m' c = Cert.Points.Sc.clouds m c := hm c
      have h := h c
      rw [hc] at h
      exact h) (Cert.Points.Columns.run m' g')⟩

theorem claim : Cert.Claim := ⟨Cert.Kernel.Gen.facts, Cert.KernelIdeal.Gen.facts, Cert.ReferenceIdeal.Gen.facts,
  Cert.Tiles.Gen.facts, Cert.TilesIdeal.Gen.facts, Cert.ColumnsIdeal.Gen.facts,
  kernel_frame, fun m g _ => Cert.Points.frame m g, reference_frame,
  tiles_frame, fun m g _ => Cert.Points.Sc.frame m g, columns_frame,
  trivial, same_results, trivial, same_columns⟩

end Cert.Proof

end
